-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4x128x128 : Shape := ⟨4, ![64, 4, 128, 128]⟩
abbrev S64x2 : Shape := ⟨2, ![64, 2]⟩
abbrev S64x512x128 : Shape := ⟨3, ![64, 512, 128]⟩
abbrev S2x4x32x128 : Shape := ⟨4, ![2, 4, 32, 128]⟩
abbrev S2x128x128 : Shape := ⟨3, ![2, 128, 128]⟩
abbrev S_ : Shape := ⟨0, ![]⟩
abbrev S16 : Shape := ⟨1, ![16]⟩
abbrev S1x4x32x128 : Shape := ⟨4, ![1, 4, 32, 128]⟩
abbrev S4x32x128 : Shape := ⟨3, ![4, 32, 128]⟩
abbrev S1x128x128 : Shape := ⟨3, ![1, 128, 128]⟩
abbrev S128x128 : Shape := ⟨2, ![128, 128]⟩
abbrev S1x1x1x16 : Shape := ⟨4, ![1, 1, 1, 16]⟩
abbrev S1x1x16 : Shape := ⟨3, ![1, 1, 16]⟩
abbrev S64x128x4x128 : Shape := ⟨4, ![64, 128, 4, 128]⟩
abbrev S64x128x128x4 : Shape := ⟨4, ![64, 128, 128, 4]⟩
abbrev S64x16384x4 : Shape := ⟨3, ![64, 16384, 4]⟩

abbrev nBuf : Table → Nat
  | .hbm => 6
  | .local .scVector .vmem => 3
  | _ => 0

abbrev bufTy : (tb : Table) → Fin (nBuf tb) → BufTy
  | .hbm, ⟨0, _⟩ => ⟨S64x4x128x128, .f32⟩
  | .hbm, ⟨1, _⟩ => ⟨S64x2, .f32⟩
  | .hbm, ⟨2, _⟩ => ⟨S64x512x128, .f32⟩
  | .hbm, ⟨3, _⟩ => ⟨S64x128x4x128, .f32⟩
  | .hbm, ⟨4, _⟩ => ⟨S64x128x128x4, .f32⟩
  | .hbm, ⟨5, _⟩ => ⟨S64x16384x4, .f32⟩
  | .local .scVector .vmem, ⟨0, _⟩ => ⟨S2x4x32x128, .f32⟩
  | .local .scVector .vmem, ⟨1, _⟩ => ⟨S2x128x128, .f32⟩
  | .local .scVector .vmem, ⟨2, _⟩ => ⟨S64x2, .f32⟩
  | _, _ => ⟨S64x4x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_8 : BitVec 32 := 0#32
  let v44 : BitVec 32 := Scalar.addi v2 c0_i32_8
  let c0_i32_13 : BitVec 32 := 0#32
  let c0_i32_14 : BitVec 32 := 0#32
  let c0_i32_15 : BitVec 32 := 0#32
  ![v44.toNat, 0, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_22 : BitVec 32 := 0#32
  let v53 : BitVec 32 := Scalar.addi v2 c0_i32_22
  let c0_i32_26 : BitVec 32 := 0#32
  let c32_i32_27 : BitVec 32 := 32#32
  let c0_i32_28 : BitVec 32 := 0#32
  ![v53.toNat, 0, 32, 0]
@[reducible] def k0_t1_loop : Scf.Loop 32 :=
  let c0_i32_36 : BitVec 32 := 0#32
  let c4_i32 : BitVec 32 := 4#32
  let v62 : BitVec 32 := Scalar.addi c0_i32_36 c4_i32
  let c1_i32_37 : BitVec 32 := 1#32
  ⟨c0_i32_36, v62, c1_i32_37⟩
def k0_cond1 (k0_t1 : Fin k0_t1_loop.trips) : BitVec 1 :=
  let c0_i32_36 : BitVec 32 := 0#32
  let c1_i32_37 : BitVec 32 := 1#32
  let arg12 : BitVec 32 := Scf.iv c0_i32_36 c1_i32_37 k0_t1
  let c0_i32_59 : BitVec 32 := 0#32
  let v81 : BitVec 1 := Scalar.cmpi .sgt arg12 c0_i32_59
  let v82 : BitVec 32 := Scalar.extui v81
  let c0_i32_60 : BitVec 32 := 0#32
  let v83 : BitVec 1 := Scalar.cmpi .ne v82 c0_i32_60
  v83

def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_179 : BitVec 32 := 0#32
  let c0_i32_180 : BitVec 32 := 0#32
  ![v2.toNat, 0, 0]
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_65 : BitVec 32 := 0#32
  let c0_i32_66 : BitVec 32 := 0#32
  let c0_i32_67 : BitVec 32 := 0#32
  ![v2.toNat, 0, 0, 0]

def k0_chk1 (v120 : IVec S16 32) (v121 : IVec S16 32) : Prop :=
  (∀ a x, ((![v120, v121] : Fin 2 → IVec S16 32) a x).toNat < S64x2.size a)
theorem k0_idx1_inb : ∀ (v120 : IVec S16 32) (v121 : IVec S16 32) (k0_hw1 : k0_chk1 v120 v121), ∀ a x, ((![v120, v121] : Fin 2 → IVec S16 32) a x).toNat < S64x2.size a := fun v120 v121 k0_hw1 => k0_hw1

def k0_chk2 (v120 : IVec S16 32) (v123 : IVec S16 32) : Prop :=
  (∀ a x, ((![v120, v123] : Fin 2 → IVec S16 32) a x).toNat < S64x2.size a)
theorem k0_idx2_inb : ∀ (v120 : IVec S16 32) (v123 : IVec S16 32) (k0_hw2 : k0_chk2 v120 v123), ∀ a x, ((![v120, v123] : Fin 2 → IVec S16 32) a x).toNat < S64x2.size a := fun v120 v123 k0_hw2 => k0_hw2
@[reducible] def k0_t2_loop : Scf.Loop 32 :=
  let c0_i32_89 : BitVec 32 := 0#32
  let c32_i32_90 : BitVec 32 := 32#32
  let v133 : BitVec 32 := Scalar.addi c0_i32_89 c32_i32_90
  let c1_i32_91 : BitVec 32 := 1#32
  ⟨c0_i32_89, v133, c1_i32_91⟩
def k0_off5 (k0_t2 : Fin k0_t2_loop.trips) : Fin 4 → Nat :=
  let c0_i32_181 : BitVec 32 := 0#32
  let v281 : Index := Scalar.indexCast c0_i32_181
  let c0_i32_182 : BitVec 32 := 0#32
  let v282 : Index := Scalar.indexCast c0_i32_182
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v283 : Index := Scalar.indexCast v272
  let c0 : Index := 0#32
  ![0, 0, v283.toNat, 0]
def k0_off6 (k0_t2 : Fin k0_t2_loop.trips) : Fin 4 → Nat :=
  let c0_i32_183 : BitVec 32 := 0#32
  let v285 : Index := Scalar.indexCast c0_i32_183
  let c1_i32_184 : BitVec 32 := 1#32
  let v286 : Index := Scalar.indexCast c1_i32_184
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v287 : Index := Scalar.indexCast v272
  let c0_185 : Index := 0#32
  ![0, 1, v287.toNat, 0]
def k0_off7 (k0_t2 : Fin k0_t2_loop.trips) : Fin 4 → Nat :=
  let c0_i32_186 : BitVec 32 := 0#32
  let v289 : Index := Scalar.indexCast c0_i32_186
  let c2_i32_187 : BitVec 32 := 2#32
  let v290 : Index := Scalar.indexCast c2_i32_187
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v291 : Index := Scalar.indexCast v272
  let c0_188 : Index := 0#32
  ![0, 2, v291.toNat, 0]
def k0_off8 (k0_t2 : Fin k0_t2_loop.trips) : Fin 4 → Nat :=
  let c0_i32_189 : BitVec 32 := 0#32
  let v293 : Index := Scalar.indexCast c0_i32_189
  let c3_i32_190 : BitVec 32 := 3#32
  let v294 : Index := Scalar.indexCast c3_i32_190
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v295 : Index := Scalar.indexCast v272
  let c0_191 : Index := 0#32
  ![0, 3, v295.toNat, 0]
def k0_off9 (k0_t2 : Fin k0_t2_loop.trips) (c0_i32_192 : BitVec 32) : Fin 3 → Nat :=
  let c0_i32_193 : BitVec 32 := 0#32
  let v299 : Index := Scalar.indexCast c0_i32_193
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v298 : BitVec 32 := Scalar.addi v280 c0_i32_192
  let v300 : Index := Scalar.indexCast v298
  let c0_194 : Index := 0#32
  ![0, v300.toNat, 0]
def k0_off10 (k0_t2 : Fin k0_t2_loop.trips) : Fin 4 → Nat :=
  let c0_i32_204 : BitVec 32 := 0#32
  let v317 : Index := Scalar.indexCast c0_i32_204
  let c0_i32_205 : BitVec 32 := 0#32
  let v318 : Index := Scalar.indexCast c0_i32_205
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v319 : Index := Scalar.indexCast v272
  let c16 : Index := 16#32
  ![0, 0, v319.toNat, 16]
def k0_off11 (k0_t2 : Fin k0_t2_loop.trips) : Fin 4 → Nat :=
  let c0_i32_206 : BitVec 32 := 0#32
  let v321 : Index := Scalar.indexCast c0_i32_206
  let c1_i32_207 : BitVec 32 := 1#32
  let v322 : Index := Scalar.indexCast c1_i32_207
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v323 : Index := Scalar.indexCast v272
  let c16_208 : Index := 16#32
  ![0, 1, v323.toNat, 16]
def k0_off12 (k0_t2 : Fin k0_t2_loop.trips) : Fin 4 → Nat :=
  let c0_i32_209 : BitVec 32 := 0#32
  let v325 : Index := Scalar.indexCast c0_i32_209
  let c2_i32_210 : BitVec 32 := 2#32
  let v326 : Index := Scalar.indexCast c2_i32_210
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v327 : Index := Scalar.indexCast v272
  let c16_211 : Index := 16#32
  ![0, 2, v327.toNat, 16]
def k0_off13 (k0_t2 : Fin k0_t2_loop.trips) : Fin 4 → Nat :=
  let c0_i32_212 : BitVec 32 := 0#32
  let v329 : Index := Scalar.indexCast c0_i32_212
  let c3_i32_213 : BitVec 32 := 3#32
  let v330 : Index := Scalar.indexCast c3_i32_213
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v331 : Index := Scalar.indexCast v272
  let c16_214 : Index := 16#32
  ![0, 3, v331.toNat, 16]
def k0_off14 (k0_t2 : Fin k0_t2_loop.trips) (c0_i32_215 : BitVec 32) : Fin 3 → Nat :=
  let c0_i32_216 : BitVec 32 := 0#32
  let v335 : Index := Scalar.indexCast c0_i32_216
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v334 : BitVec 32 := Scalar.addi v280 c0_i32_215
  let v336 : Index := Scalar.indexCast v334
  let c16_217 : Index := 16#32
  ![0, v336.toNat, 16]
def k0_off15 (k0_t2 : Fin k0_t2_loop.trips) : Fin 4 → Nat :=
  let c0_i32_227 : BitVec 32 := 0#32
  let v353 : Index := Scalar.indexCast c0_i32_227
  let c0_i32_228 : BitVec 32 := 0#32
  let v354 : Index := Scalar.indexCast c0_i32_228
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v355 : Index := Scalar.indexCast v272
  let c32 : Index := 32#32
  ![0, 0, v355.toNat, 32]
def k0_off16 (k0_t2 : Fin k0_t2_loop.trips) : Fin 4 → Nat :=
  let c0_i32_229 : BitVec 32 := 0#32
  let v357 : Index := Scalar.indexCast c0_i32_229
  let c1_i32_230 : BitVec 32 := 1#32
  let v358 : Index := Scalar.indexCast c1_i32_230
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v359 : Index := Scalar.indexCast v272
  let c32_231 : Index := 32#32
  ![0, 1, v359.toNat, 32]
def k0_off17 (k0_t2 : Fin k0_t2_loop.trips) : Fin 4 → Nat :=
  let c0_i32_232 : BitVec 32 := 0#32
  let v361 : Index := Scalar.indexCast c0_i32_232
  let c2_i32_233 : BitVec 32 := 2#32
  let v362 : Index := Scalar.indexCast c2_i32_233
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v363 : Index := Scalar.indexCast v272
  let c32_234 : Index := 32#32
  ![0, 2, v363.toNat, 32]
def k0_off18 (k0_t2 : Fin k0_t2_loop.trips) : Fin 4 → Nat :=
  let c0_i32_235 : BitVec 32 := 0#32
  let v365 : Index := Scalar.indexCast c0_i32_235
  let c3_i32_236 : BitVec 32 := 3#32
  let v366 : Index := Scalar.indexCast c3_i32_236
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v367 : Index := Scalar.indexCast v272
  let c32_237 : Index := 32#32
  ![0, 3, v367.toNat, 32]
def k0_off19 (k0_t2 : Fin k0_t2_loop.trips) (c0_i32_238 : BitVec 32) : Fin 3 → Nat :=
  let c0_i32_239 : BitVec 32 := 0#32
  let v371 : Index := Scalar.indexCast c0_i32_239
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v370 : BitVec 32 := Scalar.addi v280 c0_i32_238
  let v372 : Index := Scalar.indexCast v370
  let c32_240 : Index := 32#32
  ![0, v372.toNat, 32]
def k0_off20 (k0_t2 : Fin k0_t2_loop.trips) : Fin 4 → Nat :=
  let c0_i32_250 : BitVec 32 := 0#32
  let v389 : Index := Scalar.indexCast c0_i32_250
  let c0_i32_251 : BitVec 32 := 0#32
  let v390 : Index := Scalar.indexCast c0_i32_251
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v391 : Index := Scalar.indexCast v272
  let c48 : Index := 48#32
  ![0, 0, v391.toNat, 48]
def k0_off21 (k0_t2 : Fin k0_t2_loop.trips) : Fin 4 → Nat :=
  let c0_i32_252 : BitVec 32 := 0#32
  let v393 : Index := Scalar.indexCast c0_i32_252
  let c1_i32_253 : BitVec 32 := 1#32
  let v394 : Index := Scalar.indexCast c1_i32_253
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v395 : Index := Scalar.indexCast v272
  let c48_254 : Index := 48#32
  ![0, 1, v395.toNat, 48]
def k0_off22 (k0_t2 : Fin k0_t2_loop.trips) : Fin 4 → Nat :=
  let c0_i32_255 : BitVec 32 := 0#32
  let v397 : Index := Scalar.indexCast c0_i32_255
  let c2_i32_256 : BitVec 32 := 2#32
  let v398 : Index := Scalar.indexCast c2_i32_256
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v399 : Index := Scalar.indexCast v272
  let c48_257 : Index := 48#32
  ![0, 2, v399.toNat, 48]
def k0_off23 (k0_t2 : Fin k0_t2_loop.trips) : Fin 4 → Nat :=
  let c0_i32_258 : BitVec 32 := 0#32
  let v401 : Index := Scalar.indexCast c0_i32_258
  let c3_i32_259 : BitVec 32 := 3#32
  let v402 : Index := Scalar.indexCast c3_i32_259
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v403 : Index := Scalar.indexCast v272
  let c48_260 : Index := 48#32
  ![0, 3, v403.toNat, 48]
def k0_off24 (k0_t2 : Fin k0_t2_loop.trips) (c0_i32_261 : BitVec 32) : Fin 3 → Nat :=
  let c0_i32_262 : BitVec 32 := 0#32
  let v407 : Index := Scalar.indexCast c0_i32_262
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v406 : BitVec 32 := Scalar.addi v280 c0_i32_261
  let v408 : Index := Scalar.indexCast v406
  let c48_263 : Index := 48#32
  ![0, v408.toNat, 48]
def k0_off25 (k0_t2 : Fin k0_t2_loop.trips) : Fin 4 → Nat :=
  let c0_i32_273 : BitVec 32 := 0#32
  let v425 : Index := Scalar.indexCast c0_i32_273
  let c0_i32_274 : BitVec 32 := 0#32
  let v426 : Index := Scalar.indexCast c0_i32_274
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v427 : Index := Scalar.indexCast v272
  let c64 : Index := 64#32
  ![0, 0, v427.toNat, 64]
def k0_off26 (k0_t2 : Fin k0_t2_loop.trips) : Fin 4 → Nat :=
  let c0_i32_275 : BitVec 32 := 0#32
  let v429 : Index := Scalar.indexCast c0_i32_275
  let c1_i32_276 : BitVec 32 := 1#32
  let v430 : Index := Scalar.indexCast c1_i32_276
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v431 : Index := Scalar.indexCast v272
  let c64_277 : Index := 64#32
  ![0, 1, v431.toNat, 64]
def k0_off27 (k0_t2 : Fin k0_t2_loop.trips) : Fin 4 → Nat :=
  let c0_i32_278 : BitVec 32 := 0#32
  let v433 : Index := Scalar.indexCast c0_i32_278
  let c2_i32_279 : BitVec 32 := 2#32
  let v434 : Index := Scalar.indexCast c2_i32_279
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v435 : Index := Scalar.indexCast v272
  let c64_280 : Index := 64#32
  ![0, 2, v435.toNat, 64]
def k0_off28 (k0_t2 : Fin k0_t2_loop.trips) : Fin 4 → Nat :=
  let c0_i32_281 : BitVec 32 := 0#32
  let v437 : Index := Scalar.indexCast c0_i32_281
  let c3_i32_282 : BitVec 32 := 3#32
  let v438 : Index := Scalar.indexCast c3_i32_282
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v439 : Index := Scalar.indexCast v272
  let c64_283 : Index := 64#32
  ![0, 3, v439.toNat, 64]
def k0_off29 (k0_t2 : Fin k0_t2_loop.trips) (c0_i32_284 : BitVec 32) : Fin 3 → Nat :=
  let c0_i32_285 : BitVec 32 := 0#32
  let v443 : Index := Scalar.indexCast c0_i32_285
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v442 : BitVec 32 := Scalar.addi v280 c0_i32_284
  let v444 : Index := Scalar.indexCast v442
  let c64_286 : Index := 64#32
  ![0, v444.toNat, 64]
def k0_off30 (k0_t2 : Fin k0_t2_loop.trips) : Fin 4 → Nat :=
  let c0_i32_296 : BitVec 32 := 0#32
  let v461 : Index := Scalar.indexCast c0_i32_296
  let c0_i32_297 : BitVec 32 := 0#32
  let v462 : Index := Scalar.indexCast c0_i32_297
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v463 : Index := Scalar.indexCast v272
  let c80 : Index := 80#32
  ![0, 0, v463.toNat, 80]
def k0_off31 (k0_t2 : Fin k0_t2_loop.trips) : Fin 4 → Nat :=
  let c0_i32_298 : BitVec 32 := 0#32
  let v465 : Index := Scalar.indexCast c0_i32_298
  let c1_i32_299 : BitVec 32 := 1#32
  let v466 : Index := Scalar.indexCast c1_i32_299
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v467 : Index := Scalar.indexCast v272
  let c80_300 : Index := 80#32
  ![0, 1, v467.toNat, 80]
def k0_off32 (k0_t2 : Fin k0_t2_loop.trips) : Fin 4 → Nat :=
  let c0_i32_301 : BitVec 32 := 0#32
  let v469 : Index := Scalar.indexCast c0_i32_301
  let c2_i32_302 : BitVec 32 := 2#32
  let v470 : Index := Scalar.indexCast c2_i32_302
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v471 : Index := Scalar.indexCast v272
  let c80_303 : Index := 80#32
  ![0, 2, v471.toNat, 80]
def k0_off33 (k0_t2 : Fin k0_t2_loop.trips) : Fin 4 → Nat :=
  let c0_i32_304 : BitVec 32 := 0#32
  let v473 : Index := Scalar.indexCast c0_i32_304
  let c3_i32_305 : BitVec 32 := 3#32
  let v474 : Index := Scalar.indexCast c3_i32_305
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v475 : Index := Scalar.indexCast v272
  let c80_306 : Index := 80#32
  ![0, 3, v475.toNat, 80]
def k0_off34 (k0_t2 : Fin k0_t2_loop.trips) (c0_i32_307 : BitVec 32) : Fin 3 → Nat :=
  let c0_i32_308 : BitVec 32 := 0#32
  let v479 : Index := Scalar.indexCast c0_i32_308
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v478 : BitVec 32 := Scalar.addi v280 c0_i32_307
  let v480 : Index := Scalar.indexCast v478
  let c80_309 : Index := 80#32
  ![0, v480.toNat, 80]
def k0_off35 (k0_t2 : Fin k0_t2_loop.trips) : Fin 4 → Nat :=
  let c0_i32_319 : BitVec 32 := 0#32
  let v497 : Index := Scalar.indexCast c0_i32_319
  let c0_i32_320 : BitVec 32 := 0#32
  let v498 : Index := Scalar.indexCast c0_i32_320
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v499 : Index := Scalar.indexCast v272
  let c96 : Index := 96#32
  ![0, 0, v499.toNat, 96]
def k0_off36 (k0_t2 : Fin k0_t2_loop.trips) : Fin 4 → Nat :=
  let c0_i32_321 : BitVec 32 := 0#32
  let v501 : Index := Scalar.indexCast c0_i32_321
  let c1_i32_322 : BitVec 32 := 1#32
  let v502 : Index := Scalar.indexCast c1_i32_322
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v503 : Index := Scalar.indexCast v272
  let c96_323 : Index := 96#32
  ![0, 1, v503.toNat, 96]
def k0_off37 (k0_t2 : Fin k0_t2_loop.trips) : Fin 4 → Nat :=
  let c0_i32_324 : BitVec 32 := 0#32
  let v505 : Index := Scalar.indexCast c0_i32_324
  let c2_i32_325 : BitVec 32 := 2#32
  let v506 : Index := Scalar.indexCast c2_i32_325
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v507 : Index := Scalar.indexCast v272
  let c96_326 : Index := 96#32
  ![0, 2, v507.toNat, 96]
def k0_off38 (k0_t2 : Fin k0_t2_loop.trips) : Fin 4 → Nat :=
  let c0_i32_327 : BitVec 32 := 0#32
  let v509 : Index := Scalar.indexCast c0_i32_327
  let c3_i32_328 : BitVec 32 := 3#32
  let v510 : Index := Scalar.indexCast c3_i32_328
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v511 : Index := Scalar.indexCast v272
  let c96_329 : Index := 96#32
  ![0, 3, v511.toNat, 96]
def k0_off39 (k0_t2 : Fin k0_t2_loop.trips) (c0_i32_330 : BitVec 32) : Fin 3 → Nat :=
  let c0_i32_331 : BitVec 32 := 0#32
  let v515 : Index := Scalar.indexCast c0_i32_331
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v514 : BitVec 32 := Scalar.addi v280 c0_i32_330
  let v516 : Index := Scalar.indexCast v514
  let c96_332 : Index := 96#32
  ![0, v516.toNat, 96]
def k0_off40 (k0_t2 : Fin k0_t2_loop.trips) : Fin 4 → Nat :=
  let c0_i32_342 : BitVec 32 := 0#32
  let v533 : Index := Scalar.indexCast c0_i32_342
  let c0_i32_343 : BitVec 32 := 0#32
  let v534 : Index := Scalar.indexCast c0_i32_343
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v535 : Index := Scalar.indexCast v272
  let c112 : Index := 112#32
  ![0, 0, v535.toNat, 112]
def k0_off41 (k0_t2 : Fin k0_t2_loop.trips) : Fin 4 → Nat :=
  let c0_i32_344 : BitVec 32 := 0#32
  let v537 : Index := Scalar.indexCast c0_i32_344
  let c1_i32_345 : BitVec 32 := 1#32
  let v538 : Index := Scalar.indexCast c1_i32_345
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v539 : Index := Scalar.indexCast v272
  let c112_346 : Index := 112#32
  ![0, 1, v539.toNat, 112]
def k0_off42 (k0_t2 : Fin k0_t2_loop.trips) : Fin 4 → Nat :=
  let c0_i32_347 : BitVec 32 := 0#32
  let v541 : Index := Scalar.indexCast c0_i32_347
  let c2_i32_348 : BitVec 32 := 2#32
  let v542 : Index := Scalar.indexCast c2_i32_348
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v543 : Index := Scalar.indexCast v272
  let c112_349 : Index := 112#32
  ![0, 2, v543.toNat, 112]
def k0_off43 (k0_t2 : Fin k0_t2_loop.trips) : Fin 4 → Nat :=
  let c0_i32_350 : BitVec 32 := 0#32
  let v545 : Index := Scalar.indexCast c0_i32_350
  let c3_i32_351 : BitVec 32 := 3#32
  let v546 : Index := Scalar.indexCast c3_i32_351
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let v547 : Index := Scalar.indexCast v272
  let c112_352 : Index := 112#32
  ![0, 3, v547.toNat, 112]
def k0_off44 (k0_t2 : Fin k0_t2_loop.trips) (c0_i32_353 : BitVec 32) : Fin 3 → Nat :=
  let c0_i32_354 : BitVec 32 := 0#32
  let v551 : Index := Scalar.indexCast c0_i32_354
  let c0_i32_177 : BitVec 32 := 0#32
  let c0_i32_89 : BitVec 32 := 0#32
  let c1_i32_91 : BitVec 32 := 1#32
  let arg13 : BitVec 32 := Scf.iv c0_i32_89 c1_i32_91 k0_t2
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v550 : BitVec 32 := Scalar.addi v280 c0_i32_353
  let v552 : Index := Scalar.indexCast v550
  let c112_355 : Index := 112#32
  ![0, v552.toNat, 112]
def k0_cond2 (k0_t1 : Fin k0_t1_loop.trips) : BitVec 1 :=
  let c0_i32_36 : BitVec 32 := 0#32
  let c1_i32_37 : BitVec 32 := 1#32
  let arg12 : BitVec 32 := Scf.iv c0_i32_36 c1_i32_37 k0_t1
  let c3_i32 : BitVec 32 := 3#32
  let v134 : BitVec 1 := Scalar.cmpi .slt arg12 c3_i32
  let v135 : BitVec 32 := Scalar.extui v134
  let c0_i32_93 : BitVec 32 := 0#32
  let v136 : BitVec 1 := Scalar.cmpi .ne v135 c0_i32_93
  v136

def k0_off45 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_57 : BitVec 32 := 2#32
  let c0_i32_36 : BitVec 32 := 0#32
  let c1_i32_37 : BitVec 32 := 1#32
  let arg12 : BitVec 32 := Scf.iv c0_i32_36 c1_i32_37 k0_t1
  let v79 : BitVec 32 := Scalar.muli c2_i32_57 arg12
  let c0_i32_58 : BitVec 32 := 0#32
  let v80 : BitVec 32 := Scalar.addi v79 c0_i32_58
  let c2_i32_176 : BitVec 32 := 2#32
  let v271 : BitVec 32 := Scalar.addi v80 c2_i32_176
  let c0_i32_178 : BitVec 32 := 0#32
  let v273 : BitVec 1 := Scalar.cmpi .sgt v271 c0_i32_178
  let v274 : BitVec 32 := Scalar.extui v273
  let c0_i32_179 : BitVec 32 := 0#32
  let v275 : BitVec 1 := Scalar.cmpi .slt v271 c0_i32_179
  let v276 : BitVec 32 := Scalar.extui v275
  let v277 : BitVec 32 := Scalar.subi v274 v276
  let c4_i32_177 : BitVec 32 := 4#32
  let c0_i32_180 : BitVec 32 := 0#32
  let v278 : BitVec 1 := Scalar.cmpi .sgt c4_i32_177 c0_i32_180
  let v279 : BitVec 32 := Scalar.extui v278
  let c0_i32_181 : BitVec 32 := 0#32
  let v280 : BitVec 1 := Scalar.cmpi .slt c4_i32_177 c0_i32_181
  let v281 : BitVec 32 := Scalar.extui v280
  let v282 : BitVec 32 := Scalar.subi v279 v281
  let v283 : BitVec 1 := Scalar.cmpi .ne v277 v282
  let v284 : BitVec 32 := Scalar.remsi v271 c4_i32_177
  let c0_i32_182 : BitVec 32 := 0#32
  let v285 : BitVec 1 := Scalar.cmpi .ne v284 c0_i32_182
  let v286 : BitVec 1 := Scalar.andi v283 v285
  let v272 : BitVec 32 := Scalar.divsi v271 c4_i32_177
  let c1_i32_183 : BitVec 32 := 1#32
  let v287 : BitVec 32 := Scalar.subi v272 c1_i32_183
  let v288 : BitVec 32 := Scalar.select v286 v287 v272
  let v299 : BitVec 32 := Scalar.addi v2 v288
  let c0_i32_195 : BitVec 32 := 0#32
  let c4_i32_184 : BitVec 32 := 4#32
  let c0_i32_185 : BitVec 32 := 0#32
  let v289 : BitVec 1 := Scalar.cmpi .eq c4_i32_184 c0_i32_185
  let c1_i32_186 : BitVec 32 := 1#32
  let v290 : BitVec 32 := Scalar.select v289 c1_i32_186 c4_i32_184
  let v291 : BitVec 32 := Scalar.remsi v271 v290
  let c0_i32_188 : BitVec 32 := 0#32
  let v293 : BitVec 1 := Scalar.cmpi .slt v291 c0_i32_188
  let c0_i32_189 : BitVec 32 := 0#32
  let v294 : BitVec 1 := Scalar.cmpi .slt v290 c0_i32_189
  let v295 : BitVec 1 := Scalar.xori v293 v294
  let c0_i32_187 : BitVec 32 := 0#32
  let v292 : BitVec 1 := Scalar.cmpi .ne v291 c0_i32_187
  let v296 : BitVec 1 := Scalar.andi v295 v292
  let v297 : BitVec 32 := Scalar.addi v291 v290
  let v298 : BitVec 32 := Scalar.select v296 v297 v291
  let c32_i32_190 : BitVec 32 := 32#32
  let v300 : BitVec 32 := Scalar.muli v298 c32_i32_190
  let c0_i32_196 : BitVec 32 := 0#32
  ![v299.toNat, 0, v300.toNat, 0]
def k0_off46 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_57 : BitVec 32 := 2#32
  let c0_i32_36 : BitVec 32 := 0#32
  let c1_i32_37 : BitVec 32 := 1#32
  let arg12 : BitVec 32 := Scf.iv c0_i32_36 c1_i32_37 k0_t1
  let v79 : BitVec 32 := Scalar.muli c2_i32_57 arg12
  let c0_i32_58 : BitVec 32 := 0#32
  let v80 : BitVec 32 := Scalar.addi v79 c0_i32_58
  let c0_i32_95 : BitVec 32 := 0#32
  let v138 : BitVec 1 := Scalar.cmpi .sgt v80 c0_i32_95
  let v139 : BitVec 32 := Scalar.extui v138
  let c0_i32_96 : BitVec 32 := 0#32
  let v140 : BitVec 1 := Scalar.cmpi .slt v80 c0_i32_96
  let v141 : BitVec 32 := Scalar.extui v140
  let v142 : BitVec 32 := Scalar.subi v139 v141
  let c4_i32_94 : BitVec 32 := 4#32
  let c0_i32_97 : BitVec 32 := 0#32
  let v143 : BitVec 1 := Scalar.cmpi .sgt c4_i32_94 c0_i32_97
  let v144 : BitVec 32 := Scalar.extui v143
  let c0_i32_98 : BitVec 32 := 0#32
  let v145 : BitVec 1 := Scalar.cmpi .slt c4_i32_94 c0_i32_98
  let v146 : BitVec 32 := Scalar.extui v145
  let v147 : BitVec 32 := Scalar.subi v144 v146
  let v148 : BitVec 1 := Scalar.cmpi .ne v142 v147
  let v149 : BitVec 32 := Scalar.remsi v80 c4_i32_94
  let c0_i32_99 : BitVec 32 := 0#32
  let v150 : BitVec 1 := Scalar.cmpi .ne v149 c0_i32_99
  let v151 : BitVec 1 := Scalar.andi v148 v150
  let v137 : BitVec 32 := Scalar.divsi v80 c4_i32_94
  let c1_i32_100 : BitVec 32 := 1#32
  let v152 : BitVec 32 := Scalar.subi v137 c1_i32_100
  let v153 : BitVec 32 := Scalar.select v151 v152 v137
  let v164 : BitVec 32 := Scalar.addi v2 v153
  let c4_i32_101 : BitVec 32 := 4#32
  let c0_i32_102 : BitVec 32 := 0#32
  let v154 : BitVec 1 := Scalar.cmpi .eq c4_i32_101 c0_i32_102
  let c1_i32_103 : BitVec 32 := 1#32
  let v155 : BitVec 32 := Scalar.select v154 c1_i32_103 c4_i32_101
  let v156 : BitVec 32 := Scalar.remsi v80 v155
  let c0_i32_105 : BitVec 32 := 0#32
  let v158 : BitVec 1 := Scalar.cmpi .slt v156 c0_i32_105
  let c0_i32_106 : BitVec 32 := 0#32
  let v159 : BitVec 1 := Scalar.cmpi .slt v155 c0_i32_106
  let v160 : BitVec 1 := Scalar.xori v158 v159
  let c0_i32_104 : BitVec 32 := 0#32
  let v157 : BitVec 1 := Scalar.cmpi .ne v156 c0_i32_104
  let v161 : BitVec 1 := Scalar.andi v160 v157
  let v162 : BitVec 32 := Scalar.addi v156 v155
  let v163 : BitVec 32 := Scalar.select v161 v162 v156
  let c32_i32_107 : BitVec 32 := 32#32
  let v165 : BitVec 32 := Scalar.muli v163 c32_i32_107
  let c4_i32_108 : BitVec 32 := 4#32
  let v166 : BitVec 32 := Scalar.muli v165 c4_i32_108
  let c0_i32_112 : BitVec 32 := 0#32
  ![v164.toNat, v166.toNat, 0]
def k0_cond3 (k0_t1 : Fin k0_t1_loop.trips) : BitVec 1 :=
  let c0_i32_36 : BitVec 32 := 0#32
  let c1_i32_37 : BitVec 32 := 1#32
  let arg12 : BitVec 32 := Scf.iv c0_i32_36 c1_i32_37 k0_t1
  let c0_i32_118 : BitVec 32 := 0#32
  let v177 : BitVec 1 := Scalar.cmpi .sgt arg12 c0_i32_118
  let v178 : BitVec 32 := Scalar.extui v177
  let c0_i32_119 : BitVec 32 := 0#32
  let v179 : BitVec 1 := Scalar.cmpi .ne v178 c0_i32_119
  v179

def k0_off47 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_179 : BitVec 32 := 0#32
  let c0_i32_180 : BitVec 32 := 0#32
  ![v2.toNat, 0, 0]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_124 : BitVec 32 := 0#32
  let c0_i32_125 : BitVec 32 := 0#32
  let c0_i32_126 : BitVec 32 := 0#32
  ![v2.toNat, 0, 0, 0]

def k0_chk3 (v216 : IVec S16 32) (v217 : IVec S16 32) : Prop :=
  (∀ a x, ((![v216, v217] : Fin 2 → IVec S16 32) a x).toNat < S64x2.size a)
theorem k0_idx3_inb : ∀ (v216 : IVec S16 32) (v217 : IVec S16 32) (k0_hw3 : k0_chk3 v216 v217), ∀ a x, ((![v216, v217] : Fin 2 → IVec S16 32) a x).toNat < S64x2.size a := fun v216 v217 k0_hw3 => k0_hw3

def k0_chk4 (v216 : IVec S16 32) (v219 : IVec S16 32) : Prop :=
  (∀ a x, ((![v216, v219] : Fin 2 → IVec S16 32) a x).toNat < S64x2.size a)
theorem k0_idx4_inb : ∀ (v216 : IVec S16 32) (v219 : IVec S16 32) (k0_hw4 : k0_chk4 v216 v219), ∀ a x, ((![v216, v219] : Fin 2 → IVec S16 32) a x).toNat < S64x2.size a := fun v216 v219 k0_hw4 => k0_hw4
@[reducible] def k0_t3_loop : Scf.Loop 32 :=
  let c0_i32_148 : BitVec 32 := 0#32
  let c32_i32_149 : BitVec 32 := 32#32
  let v229 : BitVec 32 := Scalar.addi c0_i32_148 c32_i32_149
  let c1_i32_150 : BitVec 32 := 1#32
  ⟨c0_i32_148, v229, c1_i32_150⟩
def k0_off49 (k0_t3 : Fin k0_t3_loop.trips) : Fin 4 → Nat :=
  let c1_i32_181 : BitVec 32 := 1#32
  let v281 : Index := Scalar.indexCast c1_i32_181
  let c0_i32_182 : BitVec 32 := 0#32
  let v282 : Index := Scalar.indexCast c0_i32_182
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v283 : Index := Scalar.indexCast v272
  let c0 : Index := 0#32
  ![1, 0, v283.toNat, 0]
def k0_off50 (k0_t3 : Fin k0_t3_loop.trips) : Fin 4 → Nat :=
  let c1_i32_183 : BitVec 32 := 1#32
  let v285 : Index := Scalar.indexCast c1_i32_183
  let c1_i32_184 : BitVec 32 := 1#32
  let v286 : Index := Scalar.indexCast c1_i32_184
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v287 : Index := Scalar.indexCast v272
  let c0_185 : Index := 0#32
  ![1, 1, v287.toNat, 0]
def k0_off51 (k0_t3 : Fin k0_t3_loop.trips) : Fin 4 → Nat :=
  let c1_i32_186 : BitVec 32 := 1#32
  let v289 : Index := Scalar.indexCast c1_i32_186
  let c2_i32_187 : BitVec 32 := 2#32
  let v290 : Index := Scalar.indexCast c2_i32_187
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v291 : Index := Scalar.indexCast v272
  let c0_188 : Index := 0#32
  ![1, 2, v291.toNat, 0]
def k0_off52 (k0_t3 : Fin k0_t3_loop.trips) : Fin 4 → Nat :=
  let c1_i32_189 : BitVec 32 := 1#32
  let v293 : Index := Scalar.indexCast c1_i32_189
  let c3_i32_190 : BitVec 32 := 3#32
  let v294 : Index := Scalar.indexCast c3_i32_190
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v295 : Index := Scalar.indexCast v272
  let c0_191 : Index := 0#32
  ![1, 3, v295.toNat, 0]
def k0_off53 (k0_t3 : Fin k0_t3_loop.trips) (c0_i32_192 : BitVec 32) : Fin 3 → Nat :=
  let c1_i32_193 : BitVec 32 := 1#32
  let v299 : Index := Scalar.indexCast c1_i32_193
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v298 : BitVec 32 := Scalar.addi v280 c0_i32_192
  let v300 : Index := Scalar.indexCast v298
  let c0_194 : Index := 0#32
  ![1, v300.toNat, 0]
def k0_off54 (k0_t3 : Fin k0_t3_loop.trips) : Fin 4 → Nat :=
  let c1_i32_204 : BitVec 32 := 1#32
  let v317 : Index := Scalar.indexCast c1_i32_204
  let c0_i32_205 : BitVec 32 := 0#32
  let v318 : Index := Scalar.indexCast c0_i32_205
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v319 : Index := Scalar.indexCast v272
  let c16 : Index := 16#32
  ![1, 0, v319.toNat, 16]
def k0_off55 (k0_t3 : Fin k0_t3_loop.trips) : Fin 4 → Nat :=
  let c1_i32_206 : BitVec 32 := 1#32
  let v321 : Index := Scalar.indexCast c1_i32_206
  let c1_i32_207 : BitVec 32 := 1#32
  let v322 : Index := Scalar.indexCast c1_i32_207
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v323 : Index := Scalar.indexCast v272
  let c16_208 : Index := 16#32
  ![1, 1, v323.toNat, 16]
def k0_off56 (k0_t3 : Fin k0_t3_loop.trips) : Fin 4 → Nat :=
  let c1_i32_209 : BitVec 32 := 1#32
  let v325 : Index := Scalar.indexCast c1_i32_209
  let c2_i32_210 : BitVec 32 := 2#32
  let v326 : Index := Scalar.indexCast c2_i32_210
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v327 : Index := Scalar.indexCast v272
  let c16_211 : Index := 16#32
  ![1, 2, v327.toNat, 16]
def k0_off57 (k0_t3 : Fin k0_t3_loop.trips) : Fin 4 → Nat :=
  let c1_i32_212 : BitVec 32 := 1#32
  let v329 : Index := Scalar.indexCast c1_i32_212
  let c3_i32_213 : BitVec 32 := 3#32
  let v330 : Index := Scalar.indexCast c3_i32_213
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v331 : Index := Scalar.indexCast v272
  let c16_214 : Index := 16#32
  ![1, 3, v331.toNat, 16]
def k0_off58 (k0_t3 : Fin k0_t3_loop.trips) (c0_i32_215 : BitVec 32) : Fin 3 → Nat :=
  let c1_i32_216 : BitVec 32 := 1#32
  let v335 : Index := Scalar.indexCast c1_i32_216
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v334 : BitVec 32 := Scalar.addi v280 c0_i32_215
  let v336 : Index := Scalar.indexCast v334
  let c16_217 : Index := 16#32
  ![1, v336.toNat, 16]
def k0_off59 (k0_t3 : Fin k0_t3_loop.trips) : Fin 4 → Nat :=
  let c1_i32_227 : BitVec 32 := 1#32
  let v353 : Index := Scalar.indexCast c1_i32_227
  let c0_i32_228 : BitVec 32 := 0#32
  let v354 : Index := Scalar.indexCast c0_i32_228
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v355 : Index := Scalar.indexCast v272
  let c32 : Index := 32#32
  ![1, 0, v355.toNat, 32]
def k0_off60 (k0_t3 : Fin k0_t3_loop.trips) : Fin 4 → Nat :=
  let c1_i32_229 : BitVec 32 := 1#32
  let v357 : Index := Scalar.indexCast c1_i32_229
  let c1_i32_230 : BitVec 32 := 1#32
  let v358 : Index := Scalar.indexCast c1_i32_230
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v359 : Index := Scalar.indexCast v272
  let c32_231 : Index := 32#32
  ![1, 1, v359.toNat, 32]
def k0_off61 (k0_t3 : Fin k0_t3_loop.trips) : Fin 4 → Nat :=
  let c1_i32_232 : BitVec 32 := 1#32
  let v361 : Index := Scalar.indexCast c1_i32_232
  let c2_i32_233 : BitVec 32 := 2#32
  let v362 : Index := Scalar.indexCast c2_i32_233
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v363 : Index := Scalar.indexCast v272
  let c32_234 : Index := 32#32
  ![1, 2, v363.toNat, 32]
def k0_off62 (k0_t3 : Fin k0_t3_loop.trips) : Fin 4 → Nat :=
  let c1_i32_235 : BitVec 32 := 1#32
  let v365 : Index := Scalar.indexCast c1_i32_235
  let c3_i32_236 : BitVec 32 := 3#32
  let v366 : Index := Scalar.indexCast c3_i32_236
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v367 : Index := Scalar.indexCast v272
  let c32_237 : Index := 32#32
  ![1, 3, v367.toNat, 32]
def k0_off63 (k0_t3 : Fin k0_t3_loop.trips) (c0_i32_238 : BitVec 32) : Fin 3 → Nat :=
  let c1_i32_239 : BitVec 32 := 1#32
  let v371 : Index := Scalar.indexCast c1_i32_239
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v370 : BitVec 32 := Scalar.addi v280 c0_i32_238
  let v372 : Index := Scalar.indexCast v370
  let c32_240 : Index := 32#32
  ![1, v372.toNat, 32]
def k0_off64 (k0_t3 : Fin k0_t3_loop.trips) : Fin 4 → Nat :=
  let c1_i32_250 : BitVec 32 := 1#32
  let v389 : Index := Scalar.indexCast c1_i32_250
  let c0_i32_251 : BitVec 32 := 0#32
  let v390 : Index := Scalar.indexCast c0_i32_251
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v391 : Index := Scalar.indexCast v272
  let c48 : Index := 48#32
  ![1, 0, v391.toNat, 48]
def k0_off65 (k0_t3 : Fin k0_t3_loop.trips) : Fin 4 → Nat :=
  let c1_i32_252 : BitVec 32 := 1#32
  let v393 : Index := Scalar.indexCast c1_i32_252
  let c1_i32_253 : BitVec 32 := 1#32
  let v394 : Index := Scalar.indexCast c1_i32_253
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v395 : Index := Scalar.indexCast v272
  let c48_254 : Index := 48#32
  ![1, 1, v395.toNat, 48]
def k0_off66 (k0_t3 : Fin k0_t3_loop.trips) : Fin 4 → Nat :=
  let c1_i32_255 : BitVec 32 := 1#32
  let v397 : Index := Scalar.indexCast c1_i32_255
  let c2_i32_256 : BitVec 32 := 2#32
  let v398 : Index := Scalar.indexCast c2_i32_256
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v399 : Index := Scalar.indexCast v272
  let c48_257 : Index := 48#32
  ![1, 2, v399.toNat, 48]
def k0_off67 (k0_t3 : Fin k0_t3_loop.trips) : Fin 4 → Nat :=
  let c1_i32_258 : BitVec 32 := 1#32
  let v401 : Index := Scalar.indexCast c1_i32_258
  let c3_i32_259 : BitVec 32 := 3#32
  let v402 : Index := Scalar.indexCast c3_i32_259
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v403 : Index := Scalar.indexCast v272
  let c48_260 : Index := 48#32
  ![1, 3, v403.toNat, 48]
def k0_off68 (k0_t3 : Fin k0_t3_loop.trips) (c0_i32_261 : BitVec 32) : Fin 3 → Nat :=
  let c1_i32_262 : BitVec 32 := 1#32
  let v407 : Index := Scalar.indexCast c1_i32_262
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v406 : BitVec 32 := Scalar.addi v280 c0_i32_261
  let v408 : Index := Scalar.indexCast v406
  let c48_263 : Index := 48#32
  ![1, v408.toNat, 48]
def k0_off69 (k0_t3 : Fin k0_t3_loop.trips) : Fin 4 → Nat :=
  let c1_i32_273 : BitVec 32 := 1#32
  let v425 : Index := Scalar.indexCast c1_i32_273
  let c0_i32_274 : BitVec 32 := 0#32
  let v426 : Index := Scalar.indexCast c0_i32_274
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v427 : Index := Scalar.indexCast v272
  let c64 : Index := 64#32
  ![1, 0, v427.toNat, 64]
def k0_off70 (k0_t3 : Fin k0_t3_loop.trips) : Fin 4 → Nat :=
  let c1_i32_275 : BitVec 32 := 1#32
  let v429 : Index := Scalar.indexCast c1_i32_275
  let c1_i32_276 : BitVec 32 := 1#32
  let v430 : Index := Scalar.indexCast c1_i32_276
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v431 : Index := Scalar.indexCast v272
  let c64_277 : Index := 64#32
  ![1, 1, v431.toNat, 64]
def k0_off71 (k0_t3 : Fin k0_t3_loop.trips) : Fin 4 → Nat :=
  let c1_i32_278 : BitVec 32 := 1#32
  let v433 : Index := Scalar.indexCast c1_i32_278
  let c2_i32_279 : BitVec 32 := 2#32
  let v434 : Index := Scalar.indexCast c2_i32_279
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v435 : Index := Scalar.indexCast v272
  let c64_280 : Index := 64#32
  ![1, 2, v435.toNat, 64]
def k0_off72 (k0_t3 : Fin k0_t3_loop.trips) : Fin 4 → Nat :=
  let c1_i32_281 : BitVec 32 := 1#32
  let v437 : Index := Scalar.indexCast c1_i32_281
  let c3_i32_282 : BitVec 32 := 3#32
  let v438 : Index := Scalar.indexCast c3_i32_282
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v439 : Index := Scalar.indexCast v272
  let c64_283 : Index := 64#32
  ![1, 3, v439.toNat, 64]
def k0_off73 (k0_t3 : Fin k0_t3_loop.trips) (c0_i32_284 : BitVec 32) : Fin 3 → Nat :=
  let c1_i32_285 : BitVec 32 := 1#32
  let v443 : Index := Scalar.indexCast c1_i32_285
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v442 : BitVec 32 := Scalar.addi v280 c0_i32_284
  let v444 : Index := Scalar.indexCast v442
  let c64_286 : Index := 64#32
  ![1, v444.toNat, 64]
def k0_off74 (k0_t3 : Fin k0_t3_loop.trips) : Fin 4 → Nat :=
  let c1_i32_296 : BitVec 32 := 1#32
  let v461 : Index := Scalar.indexCast c1_i32_296
  let c0_i32_297 : BitVec 32 := 0#32
  let v462 : Index := Scalar.indexCast c0_i32_297
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v463 : Index := Scalar.indexCast v272
  let c80 : Index := 80#32
  ![1, 0, v463.toNat, 80]
def k0_off75 (k0_t3 : Fin k0_t3_loop.trips) : Fin 4 → Nat :=
  let c1_i32_298 : BitVec 32 := 1#32
  let v465 : Index := Scalar.indexCast c1_i32_298
  let c1_i32_299 : BitVec 32 := 1#32
  let v466 : Index := Scalar.indexCast c1_i32_299
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v467 : Index := Scalar.indexCast v272
  let c80_300 : Index := 80#32
  ![1, 1, v467.toNat, 80]
def k0_off76 (k0_t3 : Fin k0_t3_loop.trips) : Fin 4 → Nat :=
  let c1_i32_301 : BitVec 32 := 1#32
  let v469 : Index := Scalar.indexCast c1_i32_301
  let c2_i32_302 : BitVec 32 := 2#32
  let v470 : Index := Scalar.indexCast c2_i32_302
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v471 : Index := Scalar.indexCast v272
  let c80_303 : Index := 80#32
  ![1, 2, v471.toNat, 80]
def k0_off77 (k0_t3 : Fin k0_t3_loop.trips) : Fin 4 → Nat :=
  let c1_i32_304 : BitVec 32 := 1#32
  let v473 : Index := Scalar.indexCast c1_i32_304
  let c3_i32_305 : BitVec 32 := 3#32
  let v474 : Index := Scalar.indexCast c3_i32_305
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v475 : Index := Scalar.indexCast v272
  let c80_306 : Index := 80#32
  ![1, 3, v475.toNat, 80]
def k0_off78 (k0_t3 : Fin k0_t3_loop.trips) (c0_i32_307 : BitVec 32) : Fin 3 → Nat :=
  let c1_i32_308 : BitVec 32 := 1#32
  let v479 : Index := Scalar.indexCast c1_i32_308
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v478 : BitVec 32 := Scalar.addi v280 c0_i32_307
  let v480 : Index := Scalar.indexCast v478
  let c80_309 : Index := 80#32
  ![1, v480.toNat, 80]
def k0_off79 (k0_t3 : Fin k0_t3_loop.trips) : Fin 4 → Nat :=
  let c1_i32_319 : BitVec 32 := 1#32
  let v497 : Index := Scalar.indexCast c1_i32_319
  let c0_i32_320 : BitVec 32 := 0#32
  let v498 : Index := Scalar.indexCast c0_i32_320
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v499 : Index := Scalar.indexCast v272
  let c96 : Index := 96#32
  ![1, 0, v499.toNat, 96]
def k0_off80 (k0_t3 : Fin k0_t3_loop.trips) : Fin 4 → Nat :=
  let c1_i32_321 : BitVec 32 := 1#32
  let v501 : Index := Scalar.indexCast c1_i32_321
  let c1_i32_322 : BitVec 32 := 1#32
  let v502 : Index := Scalar.indexCast c1_i32_322
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v503 : Index := Scalar.indexCast v272
  let c96_323 : Index := 96#32
  ![1, 1, v503.toNat, 96]
def k0_off81 (k0_t3 : Fin k0_t3_loop.trips) : Fin 4 → Nat :=
  let c1_i32_324 : BitVec 32 := 1#32
  let v505 : Index := Scalar.indexCast c1_i32_324
  let c2_i32_325 : BitVec 32 := 2#32
  let v506 : Index := Scalar.indexCast c2_i32_325
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v507 : Index := Scalar.indexCast v272
  let c96_326 : Index := 96#32
  ![1, 2, v507.toNat, 96]
def k0_off82 (k0_t3 : Fin k0_t3_loop.trips) : Fin 4 → Nat :=
  let c1_i32_327 : BitVec 32 := 1#32
  let v509 : Index := Scalar.indexCast c1_i32_327
  let c3_i32_328 : BitVec 32 := 3#32
  let v510 : Index := Scalar.indexCast c3_i32_328
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v511 : Index := Scalar.indexCast v272
  let c96_329 : Index := 96#32
  ![1, 3, v511.toNat, 96]
def k0_off83 (k0_t3 : Fin k0_t3_loop.trips) (c0_i32_330 : BitVec 32) : Fin 3 → Nat :=
  let c1_i32_331 : BitVec 32 := 1#32
  let v515 : Index := Scalar.indexCast c1_i32_331
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v514 : BitVec 32 := Scalar.addi v280 c0_i32_330
  let v516 : Index := Scalar.indexCast v514
  let c96_332 : Index := 96#32
  ![1, v516.toNat, 96]
def k0_off84 (k0_t3 : Fin k0_t3_loop.trips) : Fin 4 → Nat :=
  let c1_i32_342 : BitVec 32 := 1#32
  let v533 : Index := Scalar.indexCast c1_i32_342
  let c0_i32_343 : BitVec 32 := 0#32
  let v534 : Index := Scalar.indexCast c0_i32_343
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v535 : Index := Scalar.indexCast v272
  let c112 : Index := 112#32
  ![1, 0, v535.toNat, 112]
def k0_off85 (k0_t3 : Fin k0_t3_loop.trips) : Fin 4 → Nat :=
  let c1_i32_344 : BitVec 32 := 1#32
  let v537 : Index := Scalar.indexCast c1_i32_344
  let c1_i32_345 : BitVec 32 := 1#32
  let v538 : Index := Scalar.indexCast c1_i32_345
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v539 : Index := Scalar.indexCast v272
  let c112_346 : Index := 112#32
  ![1, 1, v539.toNat, 112]
def k0_off86 (k0_t3 : Fin k0_t3_loop.trips) : Fin 4 → Nat :=
  let c1_i32_347 : BitVec 32 := 1#32
  let v541 : Index := Scalar.indexCast c1_i32_347
  let c2_i32_348 : BitVec 32 := 2#32
  let v542 : Index := Scalar.indexCast c2_i32_348
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v543 : Index := Scalar.indexCast v272
  let c112_349 : Index := 112#32
  ![1, 2, v543.toNat, 112]
def k0_off87 (k0_t3 : Fin k0_t3_loop.trips) : Fin 4 → Nat :=
  let c1_i32_350 : BitVec 32 := 1#32
  let v545 : Index := Scalar.indexCast c1_i32_350
  let c3_i32_351 : BitVec 32 := 3#32
  let v546 : Index := Scalar.indexCast c3_i32_351
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let v547 : Index := Scalar.indexCast v272
  let c112_352 : Index := 112#32
  ![1, 3, v547.toNat, 112]
def k0_off88 (k0_t3 : Fin k0_t3_loop.trips) (c0_i32_353 : BitVec 32) : Fin 3 → Nat :=
  let c1_i32_354 : BitVec 32 := 1#32
  let v551 : Index := Scalar.indexCast c1_i32_354
  let c0_i32_177 : BitVec 32 := 0#32
  let c0_i32_148 : BitVec 32 := 0#32
  let c1_i32_150 : BitVec 32 := 1#32
  let arg13 : BitVec 32 := Scf.iv c0_i32_148 c1_i32_150 k0_t3
  let c1_i32_176 : BitVec 32 := 1#32
  let v271 : BitVec 32 := Scalar.muli arg13 c1_i32_176
  let v272 : BitVec 32 := Scalar.addi c0_i32_177 v271
  let c4_i32_180 : BitVec 32 := 4#32
  let v280 : BitVec 32 := Scalar.muli v272 c4_i32_180
  let v550 : BitVec 32 := Scalar.addi v280 c0_i32_353
  let v552 : Index := Scalar.indexCast v550
  let c112_355 : Index := 112#32
  ![1, v552.toNat, 112]
def k0_cond4 (k0_t1 : Fin k0_t1_loop.trips) : BitVec 1 :=
  let c0_i32_36 : BitVec 32 := 0#32
  let c1_i32_37 : BitVec 32 := 1#32
  let arg12 : BitVec 32 := Scf.iv c0_i32_36 c1_i32_37 k0_t1
  let c3_i32_152 : BitVec 32 := 3#32
  let v230 : BitVec 1 := Scalar.cmpi .slt arg12 c3_i32_152
  let v231 : BitVec 32 := Scalar.extui v230
  let c0_i32_153 : BitVec 32 := 0#32
  let v232 : BitVec 1 := Scalar.cmpi .ne v231 c0_i32_153
  v232

def k0_off89 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_116 : BitVec 32 := 2#32
  let c0_i32_36 : BitVec 32 := 0#32
  let c1_i32_37 : BitVec 32 := 1#32
  let arg12 : BitVec 32 := Scf.iv c0_i32_36 c1_i32_37 k0_t1
  let v175 : BitVec 32 := Scalar.muli c2_i32_116 arg12
  let c1_i32_117 : BitVec 32 := 1#32
  let v176 : BitVec 32 := Scalar.addi v175 c1_i32_117
  let c2_i32_176 : BitVec 32 := 2#32
  let v271 : BitVec 32 := Scalar.addi v176 c2_i32_176
  let c0_i32_178 : BitVec 32 := 0#32
  let v273 : BitVec 1 := Scalar.cmpi .sgt v271 c0_i32_178
  let v274 : BitVec 32 := Scalar.extui v273
  let c0_i32_179 : BitVec 32 := 0#32
  let v275 : BitVec 1 := Scalar.cmpi .slt v271 c0_i32_179
  let v276 : BitVec 32 := Scalar.extui v275
  let v277 : BitVec 32 := Scalar.subi v274 v276
  let c4_i32_177 : BitVec 32 := 4#32
  let c0_i32_180 : BitVec 32 := 0#32
  let v278 : BitVec 1 := Scalar.cmpi .sgt c4_i32_177 c0_i32_180
  let v279 : BitVec 32 := Scalar.extui v278
  let c0_i32_181 : BitVec 32 := 0#32
  let v280 : BitVec 1 := Scalar.cmpi .slt c4_i32_177 c0_i32_181
  let v281 : BitVec 32 := Scalar.extui v280
  let v282 : BitVec 32 := Scalar.subi v279 v281
  let v283 : BitVec 1 := Scalar.cmpi .ne v277 v282
  let v284 : BitVec 32 := Scalar.remsi v271 c4_i32_177
  let c0_i32_182 : BitVec 32 := 0#32
  let v285 : BitVec 1 := Scalar.cmpi .ne v284 c0_i32_182
  let v286 : BitVec 1 := Scalar.andi v283 v285
  let v272 : BitVec 32 := Scalar.divsi v271 c4_i32_177
  let c1_i32_183 : BitVec 32 := 1#32
  let v287 : BitVec 32 := Scalar.subi v272 c1_i32_183
  let v288 : BitVec 32 := Scalar.select v286 v287 v272
  let v299 : BitVec 32 := Scalar.addi v2 v288
  let c0_i32_195 : BitVec 32 := 0#32
  let c4_i32_184 : BitVec 32 := 4#32
  let c0_i32_185 : BitVec 32 := 0#32
  let v289 : BitVec 1 := Scalar.cmpi .eq c4_i32_184 c0_i32_185
  let c1_i32_186 : BitVec 32 := 1#32
  let v290 : BitVec 32 := Scalar.select v289 c1_i32_186 c4_i32_184
  let v291 : BitVec 32 := Scalar.remsi v271 v290
  let c0_i32_188 : BitVec 32 := 0#32
  let v293 : BitVec 1 := Scalar.cmpi .slt v291 c0_i32_188
  let c0_i32_189 : BitVec 32 := 0#32
  let v294 : BitVec 1 := Scalar.cmpi .slt v290 c0_i32_189
  let v295 : BitVec 1 := Scalar.xori v293 v294
  let c0_i32_187 : BitVec 32 := 0#32
  let v292 : BitVec 1 := Scalar.cmpi .ne v291 c0_i32_187
  let v296 : BitVec 1 := Scalar.andi v295 v292
  let v297 : BitVec 32 := Scalar.addi v291 v290
  let v298 : BitVec 32 := Scalar.select v296 v297 v291
  let c32_i32_190 : BitVec 32 := 32#32
  let v300 : BitVec 32 := Scalar.muli v298 c32_i32_190
  let c0_i32_196 : BitVec 32 := 0#32
  ![v299.toNat, 0, v300.toNat, 0]
def k0_off90 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c2_i32_116 : BitVec 32 := 2#32
  let c0_i32_36 : BitVec 32 := 0#32
  let c1_i32_37 : BitVec 32 := 1#32
  let arg12 : BitVec 32 := Scf.iv c0_i32_36 c1_i32_37 k0_t1
  let v175 : BitVec 32 := Scalar.muli c2_i32_116 arg12
  let c1_i32_117 : BitVec 32 := 1#32
  let v176 : BitVec 32 := Scalar.addi v175 c1_i32_117
  let c0_i32_155 : BitVec 32 := 0#32
  let v234 : BitVec 1 := Scalar.cmpi .sgt v176 c0_i32_155
  let v235 : BitVec 32 := Scalar.extui v234
  let c0_i32_156 : BitVec 32 := 0#32
  let v236 : BitVec 1 := Scalar.cmpi .slt v176 c0_i32_156
  let v237 : BitVec 32 := Scalar.extui v236
  let v238 : BitVec 32 := Scalar.subi v235 v237
  let c4_i32_154 : BitVec 32 := 4#32
  let c0_i32_157 : BitVec 32 := 0#32
  let v239 : BitVec 1 := Scalar.cmpi .sgt c4_i32_154 c0_i32_157
  let v240 : BitVec 32 := Scalar.extui v239
  let c0_i32_158 : BitVec 32 := 0#32
  let v241 : BitVec 1 := Scalar.cmpi .slt c4_i32_154 c0_i32_158
  let v242 : BitVec 32 := Scalar.extui v241
  let v243 : BitVec 32 := Scalar.subi v240 v242
  let v244 : BitVec 1 := Scalar.cmpi .ne v238 v243
  let v245 : BitVec 32 := Scalar.remsi v176 c4_i32_154
  let c0_i32_159 : BitVec 32 := 0#32
  let v246 : BitVec 1 := Scalar.cmpi .ne v245 c0_i32_159
  let v247 : BitVec 1 := Scalar.andi v244 v246
  let v233 : BitVec 32 := Scalar.divsi v176 c4_i32_154
  let c1_i32_160 : BitVec 32 := 1#32
  let v248 : BitVec 32 := Scalar.subi v233 c1_i32_160
  let v249 : BitVec 32 := Scalar.select v247 v248 v233
  let v260 : BitVec 32 := Scalar.addi v2 v249
  let c4_i32_161 : BitVec 32 := 4#32
  let c0_i32_162 : BitVec 32 := 0#32
  let v250 : BitVec 1 := Scalar.cmpi .eq c4_i32_161 c0_i32_162
  let c1_i32_163 : BitVec 32 := 1#32
  let v251 : BitVec 32 := Scalar.select v250 c1_i32_163 c4_i32_161
  let v252 : BitVec 32 := Scalar.remsi v176 v251
  let c0_i32_165 : BitVec 32 := 0#32
  let v254 : BitVec 1 := Scalar.cmpi .slt v252 c0_i32_165
  let c0_i32_166 : BitVec 32 := 0#32
  let v255 : BitVec 1 := Scalar.cmpi .slt v251 c0_i32_166
  let v256 : BitVec 1 := Scalar.xori v254 v255
  let c0_i32_164 : BitVec 32 := 0#32
  let v253 : BitVec 1 := Scalar.cmpi .ne v252 c0_i32_164
  let v257 : BitVec 1 := Scalar.andi v256 v253
  let v258 : BitVec 32 := Scalar.addi v252 v251
  let v259 : BitVec 32 := Scalar.select v257 v258 v252
  let c32_i32_167 : BitVec 32 := 32#32
  let v261 : BitVec 32 := Scalar.muli v259 c32_i32_167
  let c4_i32_168 : BitVec 32 := 4#32
  let v262 : BitVec 32 := Scalar.muli v261 c4_i32_168
  let c0_i32_172 : BitVec 32 := 0#32
  ![v260.toNat, v262.toNat, 0]
def k0_off91 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_42 : BitVec 32 := 0#32
  let c0_i32_43 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x4x128x128 : Shape := ⟨4, ![64, 4, 128, 128]⟩
abbrev S64x2 : Shape := ⟨2, ![64, 2]⟩
abbrev S64x128x128x4 : Shape := ⟨4, ![64, 128, 128, 4]⟩
abbrev S128 : Shape := ⟨1, ![128]⟩
abbrev S_ : Shape := ⟨0, ![]⟩
abbrev S128x128 : Shape := ⟨2, ![128, 128]⟩
abbrev S128x128x1 : Shape := ⟨3, ![128, 128, 1]⟩
abbrev S128x128x2 : Shape := ⟨3, ![128, 128, 2]⟩
abbrev S1x128x128x2 : Shape := ⟨4, ![1, 128, 128, 2]⟩
abbrev S1x1x1x128x1x128x1x2 : Shape := ⟨8, ![1, 1, 1, 128, 1, 128, 1, 2]⟩
abbrev S64x1x1x128x1x128x1x2 : Shape := ⟨8, ![64, 1, 1, 128, 1, 128, 1, 2]⟩
abbrev S64x128x128x2 : Shape := ⟨4, ![64, 128, 128, 2]⟩
abbrev S64x1x1x2 : Shape := ⟨4, ![64, 1, 1, 2]⟩
abbrev S64x128x128x1 : Shape := ⟨4, ![64, 128, 128, 1]⟩
abbrev S64x128x128 : Shape := ⟨3, ![64, 128, 128]⟩
abbrev S64x16384x4 : Shape := ⟨3, ![64, 16384, 4]⟩

abbrev nBuf : Space → Nat
  | .hbm => 47
  | .vmem => 0
  | .smem => 0
  | _ => 0

abbrev bufTy : (tb : Table) → Fin (tcTables nBuf tb) → BufTy
  | .hbm, ⟨0, _⟩ => ⟨S64x4x128x128, .f32⟩
  | .hbm, ⟨1, _⟩ => ⟨S64x2, .f32⟩
  | .hbm, ⟨2, _⟩ => ⟨S64x128x128x4, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128x128x1, .f32⟩
  | .hbm, ⟨14, _⟩ => ⟨S128x128x1, .f32⟩
  | .hbm, ⟨15, _⟩ => ⟨S128x128x2, .f32⟩
  | .hbm, ⟨16, _⟩ => ⟨S1x128x128x2, .f32⟩
  | .hbm, ⟨17, _⟩ => ⟨S1x1x1x128x1x128x1x2, .f32⟩
  | .hbm, ⟨18, _⟩ => ⟨S64x1x1x128x1x128x1x2, .f32⟩
  | .hbm, ⟨19, _⟩ => ⟨S64x128x128x2, .f32⟩
  | .hbm, ⟨20, _⟩ => ⟨S64x1x1x2, .f32⟩
  | .hbm, ⟨21, _⟩ => ⟨S64x128x128x2, .f32⟩
  | .hbm, ⟨22, _⟩ => ⟨S64x128x128x2, .f32⟩
  | .hbm, ⟨23, _⟩ => ⟨S64x128x128x1, .f32⟩
  | .hbm, ⟨24, _⟩ => ⟨S64x128x128, .f32⟩
  | .hbm, ⟨25, _⟩ => ⟨S64x128x128x1, .f32⟩
  | .hbm, ⟨26, _⟩ => ⟨S64x128x128x1, .f32⟩
  | .hbm, ⟨27, _⟩ => ⟨S64x128x128, .f32⟩
  | .hbm, ⟨28, _⟩ => ⟨S64x128x128x1, .f32⟩
  | .hbm, ⟨29, _⟩ => ⟨S64x128x128x1, .f32⟩
  | .hbm, ⟨30, _⟩ => ⟨S64x128x128, .f32⟩
  | .hbm, ⟨31, _⟩ => ⟨S64x128x128x1, .f32⟩
  | .hbm, ⟨32, _⟩ => ⟨S64x128x128x1, .f32⟩
  | .hbm, ⟨33, _⟩ => ⟨S64x128x128x1, .f32⟩
  | .hbm, ⟨34, _⟩ => ⟨S64x128x128, .f32⟩
  | .hbm, ⟨35, _⟩ => ⟨S64x128x128x1, .f32⟩
  | .hbm, ⟨36, _⟩ => ⟨S64x128x128x1, .f32⟩
  | .hbm, ⟨37, _⟩ => ⟨S64x128x128x1, .f32⟩
  | .hbm, ⟨38, _⟩ => ⟨S64x128x128, .f32⟩
  | .hbm, ⟨39, _⟩ => ⟨S64x128x128x1, .f32⟩
  | .hbm, ⟨40, _⟩ => ⟨S64x128x128x1, .f32⟩
  | .hbm, ⟨41, _⟩ => ⟨S64x128x128x1, .f32⟩
  | .hbm, ⟨42, _⟩ => ⟨S64x128x128, .f32⟩
  | .hbm, ⟨43, _⟩ => ⟨S64x128x128x1, .f32⟩
  | .hbm, ⟨44, _⟩ => ⟨S64x128x128x1, .f32⟩
  | .hbm, ⟨45, _⟩ => ⟨S64x128x128x4, .f32⟩
  | .hbm, ⟨46, _⟩ => ⟨S64x16384x4, .f32⟩
  | _, _ => ⟨S64x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== Proof.Common.lean ====
/-
  What the whole proof speaks of: the launch's parameters, the resources, the buffers by name, and the VALUE the
  kernel computes.

  The kernel decodes a map of distances: image `b` has four planes of 128 × 128 distances (left, top, right, bottom of
  each cell's centre) and two scales; row `4 y + c` of image `b`'s output holds, at column `x`, side `c` of the box of
  cell `(y, x)`. `dec` is that number, with the operations in the order the kernel runs them, over any floats.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Transfers
public import Idealize.ShloMosaic.Lib.Writes
public import Idealize.ShloMosaic.Lib.ViewIndex
public import Idealize.ShloMosaic.Lib.ValueIdxCore
public import Idealize.ShloMosaic.Lib.Pointwise.ElementwiseCore
public import Idealize.ShloMosaic.Lib.Pointwise.ShapeOpsCore
public import Idealize.ShloMosaic.Lib.Tactic
public import proofs.«01_k».proof.Proof.Gen.KernelIdeal
public import proofs.«01_k».proof.Proof.Gen.KernelIdeal.Skeleton

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resources: the handshakes' rounds, and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## The buffers -/

/-- The three arrays, at the TensorCore. -/
abbrev lLoc (d : Dev nD) : Loc nD τ sig := (SparseCore.T d).loc main_arg0
abbrev scLoc (d : Dev nD) : Loc nD τ sig := (SparseCore.T d).loc main_arg1
abbrev oLoc (d : Dev nD) : Loc nD τ sig := (SparseCore.T d).loc main_v0

/-- The kernel's operands as its body names them: the distances, the scales, the output, the two-slot input and output
    blocks, and the subcore's copy of the scales. -/
abbrev ltrbV : Memref sig .scVector .hbm S64x4x128x128 .f32 := Memref.whole main_arg0_scv
abbrev scaleV : Memref sig .scVector .hbm S64x2 .f32 := Memref.whole main_arg1_scv
abbrev resV : Memref sig .scVector .hbm S64x512x128 .f32 := Memref.whole main_v0_scv
abbrev inV : Memref sig .scVector .vmem S2x4x32x128 .f32 := Memref.whole cc0_scratch0
abbrev outV : Memref sig .scVector .vmem S2x128x128 .f32 := Memref.whole cc0_scratch1
abbrev scV : Memref sig .scVector .vmem S64x2 .f32 := Memref.whole cc0_scratch2

/-- The subcore a grid point runs on. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first of the two images a grid point decodes. -/
abbrev img (L : grid0.Coords) : ℕ := 4 * (L 1).val + 2 * (L 0).val

/-- Slot `s` of the two blocks. -/
def inSlot (s : ℕ) : Finset S2x4x32x128.Idx := Finset.univ.filter fun i => (i 0).val = s
def outSlot (s : ℕ) : Finset S2x128x128.Idx := Finset.univ.filter fun i => (i 0).val = s

section Points
variable (d : Dev nD) (L : grid0.Coords)

/-- Slot `s` of the input block, and of the output block, held whole. -/
abbrev inPts (s : ℕ) (f : S2x4x32x128.Idx → Elt F .f32) : sProp 𝕄 := (thr d L).loc cc0_scratch0 ↦[inSlot s]{fullShare} f
abbrev outPts (s : ℕ) (f : S2x128x128.Idx → Elt F .f32) : sProp 𝕄 := (thr d L).loc cc0_scratch1 ↦[outSlot s]{fullShare} f

end Points

/-! ## The value -/

/-- An array read at natural coordinates (wrapped into range, so it is total). -/
def at4 {a b c e : ℕ} [NeZero a] [NeZero b] [NeZero c] [NeZero e] {α : Type} (f : (⟨4, ![a, b, c, e]⟩ : Shape).Idx → α) (i j k l : ℕ) : α :=
  f (ValueIdx.ix4 (Fin.ofNat a i) (Fin.ofNat b j) (Fin.ofNat c k) (Fin.ofNat e l))
def at2 {a b : ℕ} [NeZero a] [NeZero b] {α : Type} (f : (⟨2, ![a, b]⟩ : Shape).Idx → α) (i j : ℕ) : α :=
  f (ValueIdx.ix2 (Fin.ofNat a i) (Fin.ofNat b j))

theorem at4_coords {a b c e : ℕ} [NeZero a] [NeZero b] [NeZero c] [NeZero e] {α : Type} (f : (⟨4, ![a, b, c, e]⟩ : Shape).Idx → α)
    (x : (⟨4, ![a, b, c, e]⟩ : Shape).Idx) {i j k l : ℕ} (h0 : (x 0).val = i) (h1 : (x 1).val = j) (h2 : (x 2).val = k) (h3 : (x 3).val = l) :
    f x = at4 f i j k l := by
  subst h0 h1 h2 h3
  unfold at4
  refine congrArg f (funext fun z => ?_)
  match z with
  | ⟨0, _⟩ => exact Fin.ext (Nat.mod_eq_of_lt (x 0).isLt).symm
  | ⟨1, _⟩ => exact Fin.ext (Nat.mod_eq_of_lt (x 1).isLt).symm
  | ⟨2, _⟩ => exact Fin.ext (Nat.mod_eq_of_lt (x 2).isLt).symm
  | ⟨3, _⟩ => exact Fin.ext (Nat.mod_eq_of_lt (x 3).isLt).symm

theorem at2_coords {a b : ℕ} [NeZero a] [NeZero b] {α : Type} (f : (⟨2, ![a, b]⟩ : Shape).Idx → α)
    (x : (⟨2, ![a, b]⟩ : Shape).Idx) {i j : ℕ} (h0 : (x 0).val = i) (h1 : (x 1).val = j) : f x = at2 f i j := by
  subst h0 h1
  unfold at2
  refine congrArg f (funext fun z => ?_)
  match z with
  | ⟨0, _⟩ => exact Fin.ext (Nat.mod_eq_of_lt (x 0).isLt).symm
  | ⟨1, _⟩ => exact Fin.ext (Nat.mod_eq_of_lt (x 1).isLt).symm

section Value
variable [FloatOps F]

/-- The centre of cell `n`: `n + 1/2`. -/
def centre (n : ℕ) : F .f32 := FloatOps.addf (FloatOps.sitofp .f32 (BitVec.ofNat 32 n)) (Scalar.ofBits .f32 0x3F000000#32)

/-- Side `c` of a box: the centre along the side's axis, scaled, less the distance for the two near sides, plus it for
    the two far ones. -/
def side (c : ℕ) (cx cy sx sy v : F .f32) : F .f32 :=
  match c with
  | 0 => FloatOps.subf (FloatOps.mulf cx sx) v
  | 1 => FloatOps.subf (FloatOps.mulf cy sy) v
  | 2 => FloatOps.addf (FloatOps.mulf cx sx) v
  | _ => FloatOps.addf (FloatOps.mulf cy sy) v

/-- Side `c` of the box of cell `(y, x)` of image `b`. -/
def dec (l : S64x4x128x128.Idx → F .f32) (s : S64x2.Idx → F .f32) (b y c x : ℕ) : F .f32 :=
  side c (centre x) (centre y) (at2 s b 1) (at2 s b 0) (at4 l b c y x)

/-- The whole output: row `4 y + c` of image `b` holds side `c` of row `y`'s boxes. -/
def decoded (l : S64x4x128x128.Idx → F .f32) (s : S64x2.Idx → F .f32) : S64x512x128.Idx → F .f32 :=
  fun i => dec l s (i 0).val ((i 1).val / 4) ((i 1).val % 4) (i 2).val

/-- An input slot holds the 32 rows of image `b` from row `32 k`. -/
def Holds (l : S64x4x128x128.Idx → F .f32) (b k s : ℕ) (f : S2x4x32x128.Idx → F .f32) : Prop :=
  ∀ i : S2x4x32x128.Idx, (i 0).val = s → f i = at4 l b (i 1).val (32 * k + (i 2).val) (i 3).val

/-- The first `n` rows of an output slot are decoded. -/
def Done (l : S64x4x128x128.Idx → F .f32) (sc : S64x2.Idx → F .f32) (b k s n : ℕ) (f : S2x128x128.Idx → F .f32) : Prop :=
  ∀ i : S2x128x128.Idx, (i 0).val = s → (i 1).val < n →
    f i = dec l sc b (32 * k + (i 1).val / 4) ((i 1).val % 4) (i 2).val

end Value

end Cert.Proof.Box

end
-- ==== Proof.Row.lean ====
/-
  ONE ROW OF ONE TASK: the body of the row loop, for either slot. It reads the four planes' row `r` of the input slot,
  sixteen lanes at a time, and writes rows `4 r` … `4 r + 3` of the output slot. Every store's payload is a piece of ONE
  function (`dec`), so the slot's contents after the 32 stores are read off without ordering them.
-/
module

public import proofs.«01_k».proof.Proof.Common

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Windows inside a slot -/

theorem in_window (off size : Fin 4 → Nat) (inb : ∀ a, off a + size a ≤ S2x4x32x128.size a) (s : ℕ) (h0 : off 0 = s) (h1 : size 0 = 1) :
    inV.view.setOn (Rect.unit (s := S2x4x32x128) off size inb).toLoadRect.set ⊆ inSlot s := by
  intro i hi
  obtain ⟨j, hj, rfl⟩ := Finset.mem_map.mp hi
  have h := (Rect.mem_set_unit.mp hj) 0
  refine Finset.mem_filter.mpr ⟨Finset.mem_univ _, ?_⟩
  show (j 0).val = s
  omega

theorem out_window (off size : Fin 3 → Nat) (inb : ∀ a, off a + size a ≤ S2x128x128.size a) (s : ℕ) (h0 : off 0 = s) (h1 : size 0 = 1) :
    outV.view.setOn (Rect.unit (s := S2x128x128) off size inb).toLoadRect.set ⊆ outSlot s := by
  intro i hi
  obtain ⟨j, hj, rfl⟩ := Finset.mem_map.mp hi
  have h := (Rect.mem_set_unit.mp hj) 0
  refine Finset.mem_filter.mpr ⟨Finset.mem_univ _, ?_⟩
  show (j 0).val = s
  omega

theorem out_access (off size : Fin 3 → Nat) (inb : ∀ a, off a + size a ≤ S2x128x128.size a) (s : ℕ) (h0 : off 0 = s) (h1 : size 0 = 1) :
    (outV.access (Rect.unit (s := S2x128x128) off size inb)).set ⊆ outSlot s := by
  have e : (outV.access (Rect.unit (s := S2x128x128) off size inb)).set
      = outV.view.setOn (Rect.unit (s := S2x128x128) off size inb).toLoadRect.set := by
    show (outV.view.slice (Rect.unit (s := S2x128x128) off size inb)).set = _
    rw [View.set_slice]; rfl
  rw [e]; exact out_window off size inb s h0 h1

/-! ## The payloads -/

section Payload
variable (l : S64x4x128x128.Idx → F .f32) (sc : S64x2.Idx → F .f32) (b k : ℕ)

/-- Sixteen lanes loaded from plane `c`, row `r` of an input slot that holds rows of image `b`. -/
theorem load_row {s : ℕ} {fi : S2x4x32x128.Idx → F .f32} (hin : Holds l b k s fi) {off : Fin 4 → Nat} [C : ClosedOff off]
    {inb : ∀ a, off a + S1x1x1x16.size a ≤ S2x4x32x128.size a} (c r o : ℕ) (hC : C.form = ![s, c, r, o]) (j : S16.Idx) :
    shapeCast S16 (inV.view.readAt (Elt F) (Rect.unit (s := S2x4x32x128) off S1x1x1x16.size inb).toLoadRect fi) shapeCasts_S1x1x1x16_S16 j
      = at4 l b c (32 * k + r) (o + (j 0).val) := by
  have e : off = ![s, c, r, o] := C.eq.trans hC
  subst e
  refine (shapeCast_apply _ _ j (ValueIdx.ix4 (0 : Fin 1) (0 : Fin 1) (0 : Fin 1) (j 0)) (by
    rw [Shape.rowMajor_val_four, Shape.rowMajor_val_one]; simp)).trans ?_
  refine ((View.read_apply _ _).trans (cast_eq _ _)).trans ((hin _ ?_).trans ?_)
  · show s + 1 * 0 = s; omega
  · show at4 l b (c + 1 * 0) (32 * k + (r + 1 * 0)) (o + 1 * (j 0).val) = _
    simp

/-- Sixteen lanes of a row lie inside the output block. -/
theorem lanes_inb {off : Fin 3 → Nat} [C : ClosedOff off] {s q o : ℕ} (hC : C.form = ![s, q, o]) (hs : s < 2) (hq : q < 128) (ho : o + 16 ≤ 128) :
    ∀ a, off a + S1x1x16.size a ≤ S2x128x128.size a := by
  have e : off = ![s, q, o] := C.eq.trans hC
  subst e
  intro a
  match a with
  | ⟨0, _⟩ => show s + 1 ≤ 2; omega
  | ⟨1, _⟩ => show q + 1 ≤ 128; omega
  | ⟨2, _⟩ => exact ho

/-- A store of sixteen lanes into row `4 r + c` of an output slot is a piece of the decoded block when each lane is
    side `c` of its cell's box. -/
theorem piece {w : FVec F S16 .f32} {off : Fin 3 → Nat} [C : ClosedOff off]
    (s c r o : ℕ) (hs : s < 2) (hr : r < 32) (hc : c < 4) (ho : o + 16 ≤ 128) (hC : C.form = ![s, 4 * r + c, o])
    (hw : ∀ j : S16.Idx, w j = dec l sc b (32 * k + r) c (o + (j 0).val)) (x : (Rect.unit (s := S2x128x128) off S1x1x16.size (lanes_inb hC hs (by omega) ho)).shape.Idx) :
    shapeCast S1x1x16 w shapeCasts_S16_S1x1x16 x
      = (fun i : S2x128x128.Idx => dec l sc b (32 * k + (i 1).val / 4) ((i 1).val % 4) (i 2).val) ((Rect.unit (s := S2x128x128) off S1x1x16.size (lanes_inb hC hs (by omega) ho)).emb x) := by
  have h0 : (x 0).val < 1 := (x 0).isLt
  have h1 : (x 1).val < 1 := (x 1).isLt
  refine (shapeCast_apply w shapeCasts_S16_S1x1x16 x (ValueIdx.ix1 (x 2)) (by
    rw [Shape.rowMajor_val_one]; erw [Shape.rowMajor_val_three]; simp; omega)).trans ?_
  have e : off = ![s, 4 * r + c, o] := C.eq.trans hC
  subst e
  rw [hw]
  show dec l sc b (32 * k + r) c (o + (x 2).val)
    = dec l sc b (32 * k + (4 * r + c + 1 * (x 1).val) / 4) ((4 * r + c + 1 * (x 1).val) % 4) (o + 1 * (x 2).val)
  rw [show (4 * r + c + 1 * (x 1).val) / 4 = r by omega, show (4 * r + c + 1 * (x 1).val) % 4 = c by omega, Nat.one_mul]

variable {l sc b k}

theorem pay0 {v vx ld : FVec F S16 .f32} {y x : ℕ} {j : S16.Idx} (hv : v j = centre x) (hx : vx j = at2 sc b 1) (hl : ld j = at4 l b 0 y x) :
    subf (mulf v vx) ld j = dec l sc b y 0 x := by
  show FloatOps.subf (FloatOps.mulf (v j) (vx j)) (ld j) = _
  rw [hv, hx, hl]; rfl
theorem pay1 {v ld : FVec F S16 .f32} {y x : ℕ} {j : S16.Idx} (hv : v j = FloatOps.mulf (centre y) (at2 sc b 0)) (hl : ld j = at4 l b 1 y x) :
    subf v ld j = dec l sc b y 1 x := by
  show FloatOps.subf (v j) (ld j) = _
  rw [hv, hl]; rfl
theorem pay2 {v vx ld : FVec F S16 .f32} {y x : ℕ} {j : S16.Idx} (hv : v j = centre x) (hx : vx j = at2 sc b 1) (hl : ld j = at4 l b 2 y x) :
    addf (mulf v vx) ld j = dec l sc b y 2 x := by
  show FloatOps.addf (FloatOps.mulf (v j) (vx j)) (ld j) = _
  rw [hv, hx, hl]; rfl
theorem pay3 {v ld : FVec F S16 .f32} {y x : ℕ} {j : S16.Idx} (hv : v j = FloatOps.mulf (centre y) (at2 sc b 0)) (hl : ld j = at4 l b 3 y x) :
    addf v ld j = dec l sc b y 3 x := by
  show FloatOps.addf (v j) (ld j) = _
  rw [hv, hl]; rfl

/-- The row's centre, scaled: what the two sides along the vertical axis start from. -/
theorem row_word : ∀ (k : Fin 4) (r : Fin k0_t2_loop.trips),
    Scalar.addi (Scalar.muli (BitVec.ofNat 32 k.val) 32#32) (Scalar.addi 0#32 (Scalar.muli (Scf.iv 0#32 1#32 r) 1#32)) = BitVec.ofNat 32 (32 * k.val + r.val) := by
  decide +kernel

theorem cy_row {vy : FVec F S16 .f32} (hk : k < 4) (hy : ∀ j, vy j = at2 sc b 0) (r : Fin k0_t2_loop.trips) (j : S16.Idx) :
    k0_pay1 (BitVec.ofNat 32 k) vy 0#32 1#32 r j = FloatOps.mulf (centre (32 * k + r.val)) (at2 sc b 0) := by
  show FloatOps.mulf (FloatOps.addf (FloatOps.sitofp .f32 (Scalar.addi (Scalar.muli (BitVec.ofNat 32 k) 32#32)
    (Scalar.addi 0#32 (Scalar.muli (Scf.iv 0#32 1#32 r) 1#32)))) (Scalar.ofBits .f32 0x3F000000#32)) (vy j) = _
  rw [row_word ⟨k, hk⟩ r, hy]; rfl

/-- The same for the other slot's loop. -/
theorem row_word' : ∀ (k : Fin 4) (r : Fin k0_t3_loop.trips),
    Scalar.addi (Scalar.muli (BitVec.ofNat 32 k.val) 32#32) (Scalar.addi 0#32 (Scalar.muli (Scf.iv 0#32 1#32 r) 1#32)) = BitVec.ofNat 32 (32 * k.val + r.val) := by
  decide +kernel

theorem cy_row' {vy : FVec F S16 .f32} (hk : k < 4) (hy : ∀ j, vy j = at2 sc b 0) (r : Fin k0_t3_loop.trips) (j : S16.Idx) :
    k0_pay52 (BitVec.ofNat 32 k) vy 0#32 1#32 r j = FloatOps.mulf (centre (32 * k + r.val)) (at2 sc b 0) := by
  show FloatOps.mulf (FloatOps.addf (FloatOps.sitofp .f32 (Scalar.addi (Scalar.muli (BitVec.ofNat 32 k) 32#32)
    (Scalar.addi 0#32 (Scalar.muli (Scf.iv 0#32 1#32 r) 1#32)))) (Scalar.ofBits .f32 0x3F000000#32)) (vy j) = _
  rw [row_word' ⟨k, hk⟩ r, hy]; rfl

/-- What the writes leave: the pieces' rows decoded, the rows before them still. -/
theorem done_step {s r : ℕ} {fo : S2x128x128.Idx → F .f32} (hd : Done l sc b k s (4 * r) fo)
    {Ls : List (View.Piece (Elt F) S2x128x128 .f32)}
    (hp : ∀ p ∈ Ls, ∀ x : p.1.shape.Idx, p.2 x = (fun i : S2x128x128.Idx => dec l sc b (32 * k + (i 1).val / 4) ((i 1).val % 4) (i 2).val) (p.1.emb x))
    (hcov : ∀ i : S2x128x128.Idx, (i 0).val = s → 4 * r ≤ (i 1).val → (i 1).val < 4 * (r + 1) → ∃ p ∈ Ls, i ∈ p.1.set) :
    Done l sc b k s (4 * (r + 1)) (outV.view.writes (Elt F) fo Ls) := by
  intro i h0 h1
  have e : ∀ g : S2x128x128.Idx → F .f32, outV.view.read (Elt F) g i = g i := fun g => (View.read_apply _ _).trans (cast_eq _ _)
  by_cases hm : ∃ p ∈ Ls, i ∈ p.1.set
  · exact (e _).symm.trans (View.read_writes_apply_of_pieces outV.view fo (fun i : S2x128x128.Idx => dec l sc b (32 * k + (i 1).val / 4) ((i 1).val % 4) (i 2).val) Ls hp i hm)
  · refine (e _).symm.trans ((View.read_writes_apply_of_forall_not_mem outV.view fo i Ls fun p hpL hi => hm ⟨p, hpL, hi⟩).trans ((e _).trans (hd i h0 ?_)))
    by_contra hlt
    exact hm (hcov i h0 (by omega) h1)

/-- An index of the row is in the piece its group of sixteen lanes names. -/
theorem in_piece {i : S2x128x128.Idx} {off : Fin 3 → Nat} [C : ClosedOff off]
    (s q o : ℕ) (hs : s < 2) (hq : q < 128) (ho : o + 16 ≤ 128) (hC : C.form = ![s, q, o]) (h0 : (i 0).val = s) (h1 : (i 1).val = q)
    (h2 : o ≤ (i 2).val ∧ (i 2).val < o + 16) :
    i ∈ (Rect.unit (s := S2x128x128) off S1x1x16.size (lanes_inb hC hs hq ho)).set := by
  have e : off = ![s, q, o] := C.eq.trans hC
  subst e
  refine Rect.mem_set_unit.mpr fun a => ?_
  match a with
  | ⟨0, _⟩ => show s ≤ (i 0).val ∧ (i 0).val < s + 1; omega
  | ⟨1, _⟩ => show q ≤ (i 1).val ∧ (i 1).val < q + 1; omega
  | ⟨2, _⟩ => exact h2

/-- The four pieces of sixteen lanes from `o` on cover them, rows `4 r` … `4 r + 3`; what lies before, the rest of the list
    covers. -/
theorem cover_lanes {i : S2x128x128.Idx} {r : ℕ} {p0 p1 p2 p3 : View.Piece (Elt F) S2x128x128 .f32} {Ls : List (View.Piece (Elt F) S2x128x128 .f32)}
    (hlo : 4 * r ≤ (i 1).val) (hhi : (i 1).val < 4 * (r + 1)) (o : ℕ) (ho : (i 2).val < o + 16)
    (h3 : (i 1).val = 4 * r + 3 → o ≤ (i 2).val ∧ (i 2).val < o + 16 → i ∈ p3.1.set)
    (h2 : (i 1).val = 4 * r + 2 → o ≤ (i 2).val ∧ (i 2).val < o + 16 → i ∈ p2.1.set)
    (h1 : (i 1).val = 4 * r + 1 → o ≤ (i 2).val ∧ (i 2).val < o + 16 → i ∈ p1.1.set)
    (h0 : (i 1).val = 4 * r + 0 → o ≤ (i 2).val ∧ (i 2).val < o + 16 → i ∈ p0.1.set)
    (hn : (i 2).val < o → ∃ p ∈ Ls, i ∈ p.1.set) : ∃ p ∈ p3 :: p2 :: p1 :: p0 :: Ls, i ∈ p.1.set := by
  by_cases hlt : (i 2).val < o
  · obtain ⟨p, hp, hi⟩ := hn hlt
    exact ⟨p, by simp [hp], hi⟩
  · have hb : o ≤ (i 2).val ∧ (i 2).val < o + 16 := ⟨by omega, ho⟩
    obtain e | e | e | e : (i 1).val = 4 * r + 3 ∨ (i 1).val = 4 * r + 2 ∨ (i 1).val = 4 * r + 1 ∨ (i 1).val = 4 * r + 0 := by omega
    · exact ⟨p3, by simp, h3 e hb⟩
    · exact ⟨p2, by simp, h2 e hb⟩
    · exact ⟨p1, by simp, h1 e hb⟩
    · exact ⟨p0, by simp, h0 e hb⟩

end Payload

/-! ## The row -/

section Row
variable (d : Dev nD) (L : grid0.Coords)
  {l : S64x4x128x128.Idx → F .f32} {sc : S64x2.Idx → F .f32} {b k : ℕ}

/-- A row of a task in slot 0. -/
theorem row0 (v2 : BitVec 32) {v8 v13 v18 v23 v28 v33 v38 v43 : FVec F S16 .f32} (t1 : Fin k0_t1_loop.trips)
    (a12 v80 v108 c4 : BitVec 32) (v109 : BitVec 1) {v122 v124 : Vec F S16 .f32} (hk : k < 4)
    (h8 : ∀ j : S16.Idx, v8 j = centre (0 + (j 0).val)) (h13 : ∀ j : S16.Idx, v13 j = centre (16 + (j 0).val))
    (h18 : ∀ j : S16.Idx, v18 j = centre (32 + (j 0).val)) (h23 : ∀ j : S16.Idx, v23 j = centre (48 + (j 0).val))
    (h28 : ∀ j : S16.Idx, v28 j = centre (64 + (j 0).val)) (h33 : ∀ j : S16.Idx, v33 j = centre (80 + (j 0).val))
    (h38 : ∀ j : S16.Idx, v38 j = centre (96 + (j 0).val)) (h43 : ∀ j : S16.Idx, v43 j = centre (112 + (j 0).val))
    (hy : ∀ j, v122 j = at2 sc b 0) (hx : ∀ j, v124 j = at2 sc b 1) (r : Fin k0_t2_loop.trips)
    {fi : S2x4x32x128.Idx → F .f32} (hin : Holds l b k 0 fi) {fo : S2x128x128.Idx → F .f32} (hd : Done l sc b k 0 (4 * r.val) fo) :
    iprop(inPts d L 0 fi ∗ outPts d L 0 fo)
      ⊢ (wp frame (wpE (defs₀ (F := F)) 𝒱₀ (thr d L) none) Set.univ
          (k0_t2_body L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0 v2 v8 v13 v18 v23 v28 v33 v38 v43 t1 a12 v80 v108 c4 v109
            (BitVec.ofNat 32 k) v122 v124 r ⟨⟩)
          (fun _ => iprop(inPts d L 0 fi ∗ ∃ fo', ⌜Done l sc b k 0 (4 * (r.val + 1)) fo'⌝ ∗ outPts d L 0 fo')) : sProp 𝕄) := by
  unfold k0_t2_body
  simp only [k0_part10_eq_skeleton, k0_part10_skel, k0_part1_eq_skeleton, k0_part1_skel, k0_part2_eq_skeleton, k0_part2_skel,
    k0_part3_eq_skeleton, k0_part3_skel, k0_part4_eq_skeleton, k0_part4_skel, k0_part5_eq_skeleton, k0_part5_skel,
    k0_part6_eq_skeleton, k0_part6_skel, k0_part7_eq_skeleton, k0_part7_skel, k0_part8_eq_skeleton, k0_part8_skel,
    k0_part9_eq_skeleton, k0_part9_skel, Prog.lift, Prog.bind_op, Prog.bind_ret, Prog.pure_eq_ret]
  iintro ⟨Hi, Ho⟩
  ihave Ho := (Entails.of_eq (show outPts d L 0 fo = (outV.view.loc (thr d L) ↦[outSlot 0]{fullShare} outV.view.writes (Elt F) fo []) from rfl)) $$ Ho
  iterate 8
    iterate 4
      iapply (wp_load 𝒱₀ (thr d L) none Set.univ (m := inV) (S := inSlot 0) (by exact in_window _ _ _ 0 rfl rfl)) $$ Hi
      iintro Hi
    iterate 4
      iapply (wp_load 𝒱₀ (thr d L) none Set.univ (m := outV) (S := outSlot 0) (by exact out_window _ _ _ 0 rfl rfl)) $$ Ho
      iintro Ho
      iapply (wp_store_writes 𝒱₀ (thr d L) none Set.univ (m := outV) (S := outSlot 0) (by exact out_access _ _ _ 0 rfl rfl)) $$ Ho
      iintro Ho
  rw [wp_ret]; imodintro
  isplitl [Hi]; · iexact Hi
  iexists _
  isplitr; swap; · iexact Ho
  ipureintro
  have hr : r.val < 32 := Nat.lt_of_lt_of_le r.isLt k0_t2_abs.2.1
  refine done_step hd ?_ ?_
  · iterate 8
      rw [List.forall_mem_cons]; refine ⟨piece l sc b k 0 3 r.val _ (by decide) hr (by decide) (by decide) rfl fun j => pay3 (cy_row hk hy r j) (load_row l b k hin 3 r.val _ rfl j), ?_⟩
      rw [List.forall_mem_cons]; refine ⟨piece l sc b k 0 2 r.val _ (by decide) hr (by decide) (by decide) rfl fun j => pay2
        (by first | exact h8 j | exact h13 j | exact h18 j | exact h23 j | exact h28 j | exact h33 j | exact h38 j | exact h43 j) (hx j) (load_row l b k hin 2 r.val _ rfl j), ?_⟩
      rw [List.forall_mem_cons]; refine ⟨piece l sc b k 0 1 r.val _ (by decide) hr (by decide) (by decide) rfl fun j => pay1 (cy_row hk hy r j) (load_row l b k hin 1 r.val _ rfl j), ?_⟩
      rw [List.forall_mem_cons]; refine ⟨piece l sc b k 0 0 r.val _ (by decide) hr (by decide) (by decide) rfl fun j => pay0
        (by first | exact h8 j | exact h13 j | exact h18 j | exact h23 j | exact h28 j | exact h33 j | exact h38 j | exact h43 j) (hx j) (load_row l b k hin 0 r.val _ rfl j), ?_⟩
    exact fun p hp => absurd hp List.not_mem_nil
  · intro i h0 hlo hhi
    have hlt : (i 2).val < 112 + 16 := (i 2).isLt
    iterate 8
      refine cover_lanes hlo hhi _ hlt
        (fun h1 h2 => in_piece 0 (4 * r.val + 3) _ (by decide) (by omega) (by decide) rfl h0 h1 h2)
        (fun h1 h2 => in_piece 0 (4 * r.val + 2) _ (by decide) (by omega) (by decide) rfl h0 h1 h2)
        (fun h1 h2 => in_piece 0 (4 * r.val + 1) _ (by decide) (by omega) (by decide) rfl h0 h1 h2)
        (fun h1 h2 => in_piece 0 (4 * r.val + 0) _ (by decide) (by omega) (by decide) rfl h0 h1 h2) (fun hlt => ?_)
    exact absurd hlt (Nat.not_lt_zero _)

/-- A row of a task in slot 1. -/
theorem row1 (v2 : BitVec 32) {v8 v13 v18 v23 v28 v33 v38 v43 : FVec F S16 .f32} (t1 : Fin k0_t1_loop.trips)
    (a12 v176 : BitVec 32) (v216 v217 : IVec S16 32) {v218 v220 : Vec F S16 .f32} (hk : k < 4)
    (h8 : ∀ j : S16.Idx, v8 j = centre (0 + (j 0).val)) (h13 : ∀ j : S16.Idx, v13 j = centre (16 + (j 0).val))
    (h18 : ∀ j : S16.Idx, v18 j = centre (32 + (j 0).val)) (h23 : ∀ j : S16.Idx, v23 j = centre (48 + (j 0).val))
    (h28 : ∀ j : S16.Idx, v28 j = centre (64 + (j 0).val)) (h33 : ∀ j : S16.Idx, v33 j = centre (80 + (j 0).val))
    (h38 : ∀ j : S16.Idx, v38 j = centre (96 + (j 0).val)) (h43 : ∀ j : S16.Idx, v43 j = centre (112 + (j 0).val))
    (hy : ∀ j, v218 j = at2 sc b 0) (hx : ∀ j, v220 j = at2 sc b 1) (r : Fin k0_t3_loop.trips)
    {fi : S2x4x32x128.Idx → F .f32} (hin : Holds l b k 1 fi) {fo : S2x128x128.Idx → F .f32} (hd : Done l sc b k 1 (4 * r.val) fo) :
    iprop(inPts d L 1 fi ∗ outPts d L 1 fo)
      ⊢ (wp frame (wpE (defs₀ (F := F)) 𝒱₀ (thr d L) none) Set.univ
          (k0_t3_body L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0 v2 v8 v13 v18 v23 v28 v33 v38 v43 t1 a12 v176
            (BitVec.ofNat 32 k) v216 v217 v218 v220 r ⟨⟩)
          (fun _ => iprop(inPts d L 1 fi ∗ ∃ fo', ⌜Done l sc b k 1 (4 * (r.val + 1)) fo'⌝ ∗ outPts d L 1 fo')) : sProp 𝕄) := by
  unfold k0_t3_body
  simp only [k0_part21_eq_skeleton, k0_part21_skel, k0_part12_eq_skeleton, k0_part12_skel, k0_part13_eq_skeleton, k0_part13_skel,
    k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel,
    k0_part20_eq_skeleton, k0_part20_skel, Prog.lift, Prog.bind_op, Prog.bind_ret, Prog.pure_eq_ret]
  iintro ⟨Hi, Ho⟩
  ihave Ho := (Entails.of_eq (show outPts d L 1 fo = (outV.view.loc (thr d L) ↦[outSlot 1]{fullShare} outV.view.writes (Elt F) fo []) from rfl)) $$ Ho
  iterate 8
    iterate 4
      iapply (wp_load 𝒱₀ (thr d L) none Set.univ (m := inV) (S := inSlot 1) (by exact in_window _ _ _ 1 rfl rfl)) $$ Hi
      iintro Hi
    iterate 4
      iapply (wp_load 𝒱₀ (thr d L) none Set.univ (m := outV) (S := outSlot 1) (by exact out_window _ _ _ 1 rfl rfl)) $$ Ho
      iintro Ho
      iapply (wp_store_writes 𝒱₀ (thr d L) none Set.univ (m := outV) (S := outSlot 1) (by exact out_access _ _ _ 1 rfl rfl)) $$ Ho
      iintro Ho
  rw [wp_ret]; imodintro
  isplitl [Hi]; · iexact Hi
  iexists _
  isplitr; swap; · iexact Ho
  ipureintro
  have hr : r.val < 32 := Nat.lt_of_lt_of_le r.isLt k0_t3_abs.2.1
  refine done_step hd ?_ ?_
  · iterate 8
      rw [List.forall_mem_cons]; refine ⟨piece l sc b k 1 3 r.val _ (by decide) hr (by decide) (by decide) rfl fun j => pay3 (cy_row' hk hy r j) (load_row l b k hin 3 r.val _ rfl j), ?_⟩
      rw [List.forall_mem_cons]; refine ⟨piece l sc b k 1 2 r.val _ (by decide) hr (by decide) (by decide) rfl fun j => pay2
        (by first | exact h8 j | exact h13 j | exact h18 j | exact h23 j | exact h28 j | exact h33 j | exact h38 j | exact h43 j) (hx j) (load_row l b k hin 2 r.val _ rfl j), ?_⟩
      rw [List.forall_mem_cons]; refine ⟨piece l sc b k 1 1 r.val _ (by decide) hr (by decide) (by decide) rfl fun j => pay1 (cy_row' hk hy r j) (load_row l b k hin 1 r.val _ rfl j), ?_⟩
      rw [List.forall_mem_cons]; refine ⟨piece l sc b k 1 0 r.val _ (by decide) hr (by decide) (by decide) rfl fun j => pay0
        (by first | exact h8 j | exact h13 j | exact h18 j | exact h23 j | exact h28 j | exact h33 j | exact h38 j | exact h43 j) (hx j) (load_row l b k hin 0 r.val _ rfl j), ?_⟩
    exact fun p hp => absurd hp List.not_mem_nil
  · intro i h0 hlo hhi
    have hlt : (i 2).val < 112 + 16 := (i 2).isLt
    iterate 8
      refine cover_lanes hlo hhi _ hlt
        (fun h1 h2 => in_piece 1 (4 * r.val + 3) _ (by decide) (by omega) (by decide) rfl h0 h1 h2)
        (fun h1 h2 => in_piece 1 (4 * r.val + 2) _ (by decide) (by omega) (by decide) rfl h0 h1 h2)
        (fun h1 h2 => in_piece 1 (4 * r.val + 1) _ (by decide) (by omega) (by decide) rfl h0 h1 h2)
        (fun h1 h2 => in_piece 1 (4 * r.val + 0) _ (by decide) (by omega) (by decide) rfl h0 h1 h2) (fun hlt => ?_)
    exact absurd hlt (Nat.not_lt_zero _)

end Row

end Cert.Proof.Box

end
-- ==== Proof.Transfer.lean ====
/-
  The four transfers of a task, each stated once for either slot: the copy of a block of distances into an input slot, the
  copy of an output slot into the result, and the waits for them. A copy in flight is spoken of by what its wait hands
  back: the slot holding the block (and the share of the distances it was read at), or the result's rows decoded (and the
  slot to be filled anew).
-/
module

public import proofs.«01_k».proof.Proof.Common

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The windows -/

/-- A slot of the input block, a block of the distances, a slot of the output block, a block of the result: each a
    rectangle with its unit leading axis dropped. -/
abbrev inWin (off : Fin 4 → Nat) (inb : ∀ a, off a + S1x4x32x128.size a ≤ S2x4x32x128.size a) : Memref sig .scVector .vmem S4x32x128 .f32 :=
  (inV.slice (Rect.unit (s := S2x4x32x128) off S1x4x32x128.size inb) (fun _ => rfl)).squeeze S4x32x128 squeezes_S1x4x32x128_S4x32x128
abbrev ltrbWin (off : Fin 4 → Nat) (inb : ∀ a, off a + S1x4x32x128.size a ≤ S64x4x128x128.size a) : Memref sig .scVector .hbm S4x32x128 .f32 :=
  (ltrbV.slice (Rect.unit (s := S64x4x128x128) off S1x4x32x128.size inb) (fun _ => rfl)).squeeze S4x32x128 squeezes_S1x4x32x128_S4x32x128
abbrev outWin (off : Fin 3 → Nat) (inb : ∀ a, off a + S1x128x128.size a ≤ S2x128x128.size a) : Memref sig .scVector .vmem S128x128 .f32 :=
  (outV.slice (Rect.unit (s := S2x128x128) off S1x128x128.size inb) (fun _ => rfl)).squeeze S128x128 squeezes_S1x128x128_S128x128
abbrev resWin (off : Fin 3 → Nat) (inb : ∀ a, off a + S1x128x128.size a ≤ S64x512x128.size a) : Memref sig .scVector .hbm S128x128 .f32 :=
  (resV.slice (Rect.unit (s := S64x512x128) off S1x128x128.size inb) (fun _ => rfl)).squeeze S128x128 squeezes_S1x128x128_S128x128

/-- What a copy of a block credits. -/
abbrev inN : ℕ := sig.dmaCredit .scVector (Kind.scVector.table .vmem) (cc0_scratch0 : Ref sig .scVector).idx S4x32x128 .f32
abbrev outN : ℕ := sig.dmaCredit .scVector (Kind.scVector.table .hbm) (main_v0_scv : Ref sig .scVector).idx S128x128 .f32
theorem inN_pos : 0 < inN := sig.dmaCredit_pos _ _ _ _ _ (by decide)
theorem outN_pos : 0 < outN := sig.dmaCredit_pos _ _ _ _ _ (by decide)

/-- The rows of the result from the `a`-th block of 128 up to the `c`-th, four blocks to an image. -/
def band (a c : ℕ) : Finset S64x512x128.Idx := Finset.univ.filter fun x => 128 * a ≤ 512 * (x 0).val + (x 1).val ∧ 512 * (x 0).val + (x 1).val < 128 * c

theorem mem_band {a c : ℕ} {x : S64x512x128.Idx} : x ∈ band a c ↔ 128 * a ≤ 512 * (x 0).val + (x 1).val ∧ 512 * (x 0).val + (x 1).val < 128 * c :=
  Finset.mem_filter.trans (and_iff_right (Finset.mem_univ x))
theorem mem_inSlot {s : ℕ} {i : S2x4x32x128.Idx} : i ∈ inSlot s ↔ (i 0).val = s := Finset.mem_filter.trans (and_iff_right (Finset.mem_univ i))
theorem mem_outSlot {s : ℕ} {i : S2x128x128.Idx} : i ∈ outSlot s ↔ (i 0).val = s := Finset.mem_filter.trans (and_iff_right (Finset.mem_univ i))

/-- Consecutive bands join. -/
theorem band_union {a b c : ℕ} (h : a ≤ b) (h' : b ≤ c) : band a b ∪ band b c = band a c := by
  ext x
  rw [Finset.mem_union, mem_band, mem_band, mem_band]
  omega
theorem band_disjoint (a b c : ℕ) : Disjoint (band a b) (band b c) := by
  refine Finset.disjoint_left.mpr fun x h h' => ?_
  rw [mem_band] at h h'
  omega

/-- Dropping a unit leading axis keeps the other coordinates. -/
theorem drop4 (x : S4x32x128.Idx) :
    Shape.reshapeEquiv squeezes_S1x4x32x128_S4x32x128.numel_eq x = ValueIdx.ix4 (0 : Fin 1) (x 0) (x 1) (x 2) := by
  refine Shape.reshapeEquiv_eq_of_rowMajor _ ?_
  refine (Shape.rowMajor_val_four (d := ![1, 4, 32, 128]) _).trans (.trans ?_ (Shape.rowMajor_val_three (d := ![4, 32, 128]) x).symm)
  show ((0 * 4 + (x 0).val) * 32 + (x 1).val) * 128 + (x 2).val = ((x 0).val * 32 + (x 1).val) * 128 + (x 2).val
  omega
theorem drop3 (x : S128x128.Idx) :
    Shape.reshapeEquiv squeezes_S1x128x128_S128x128.numel_eq x = ValueIdx.ix3 (0 : Fin 1) (x 0) (x 1) := by
  refine Shape.reshapeEquiv_eq_of_rowMajor _ ?_
  refine (Shape.rowMajor_val_three (d := ![1, 128, 128]) _).trans (.trans ?_ (Shape.rowMajor_val_two (d := ![128, 128]) x).symm)
  show (0 * 128 + (x 0).val) * 128 + (x 1).val = (x 0).val * 128 + (x 1).val
  omega

/-- Where an index of a window sits in its buffer. -/
theorem inWin_coords (off inb) (x : S4x32x128.Idx) :
    ((inWin off inb).view.emb x 0).val = off 0 ∧ ((inWin off inb).view.emb x 1).val = off 1 + (x 0).val
      ∧ ((inWin off inb).view.emb x 2).val = off 2 + (x 1).val ∧ ((inWin off inb).view.emb x 3).val = off 3 + (x 2).val := by
  have h : ∀ a, ((inWin off inb).view.emb x a).val = off a + 1 * (Shape.reshapeEquiv squeezes_S1x4x32x128_S4x32x128.numel_eq x a).val := fun _ => rfl
  simp only [drop4, one_mul] at h
  exact ⟨h 0, h 1, h 2, h 3⟩
theorem ltrbWin_coords (off inb) (x : S4x32x128.Idx) :
    ((ltrbWin off inb).view.emb x 0).val = off 0 ∧ ((ltrbWin off inb).view.emb x 1).val = off 1 + (x 0).val
      ∧ ((ltrbWin off inb).view.emb x 2).val = off 2 + (x 1).val ∧ ((ltrbWin off inb).view.emb x 3).val = off 3 + (x 2).val := by
  have h : ∀ a, ((ltrbWin off inb).view.emb x a).val = off a + 1 * (Shape.reshapeEquiv squeezes_S1x4x32x128_S4x32x128.numel_eq x a).val := fun _ => rfl
  simp only [drop4, one_mul] at h
  exact ⟨h 0, h 1, h 2, h 3⟩
theorem outWin_coords (off inb) (x : S128x128.Idx) :
    ((outWin off inb).view.emb x 0).val = off 0 ∧ ((outWin off inb).view.emb x 1).val = off 1 + (x 0).val
      ∧ ((outWin off inb).view.emb x 2).val = off 2 + (x 1).val := by
  have h : ∀ a, ((outWin off inb).view.emb x a).val = off a + 1 * (Shape.reshapeEquiv squeezes_S1x128x128_S128x128.numel_eq x a).val := fun _ => rfl
  simp only [drop3, one_mul] at h
  exact ⟨h 0, h 1, h 2⟩
theorem resWin_coords (off inb) (x : S128x128.Idx) :
    ((resWin off inb).view.emb x 0).val = off 0 ∧ ((resWin off inb).view.emb x 1).val = off 1 + (x 0).val
      ∧ ((resWin off inb).view.emb x 2).val = off 2 + (x 1).val := by
  have h : ∀ a, ((resWin off inb).view.emb x a).val = off a + 1 * (Shape.reshapeEquiv squeezes_S1x128x128_S128x128.numel_eq x a).val := fun _ => rfl
  simp only [drop3, one_mul] at h
  exact ⟨h 0, h 1, h 2⟩

/-- The elements of the windows at the places the kernel puts them. -/
theorem inWin_set {off inb} {s : ℕ} (h : off = ![s, 0, 0, 0]) : (inWin off inb).view.set = inSlot s := by
  subst h
  ext i
  rw [mem_inSlot]
  constructor
  · intro hi
    obtain ⟨x, -, e⟩ := Finset.mem_map.mp hi
    rw [← e]
    exact (inWin_coords _ inb x).1
  · intro h0
    refine Finset.mem_map.mpr ⟨ValueIdx.ix3 (i 1) (i 2) (i 3), Finset.mem_univ _, ?_⟩
    obtain ⟨e0, e1, e2, e3⟩ := inWin_coords _ inb (ValueIdx.ix3 (i 1) (i 2) (i 3))
    funext a
    match a with
    | ⟨0, _⟩ => exact Fin.ext (e0.trans h0.symm)
    | ⟨1, _⟩ => exact Fin.ext (e1.trans (Nat.zero_add _))
    | ⟨2, _⟩ => exact Fin.ext (e2.trans (Nat.zero_add _))
    | ⟨3, _⟩ => exact Fin.ext (e3.trans (Nat.zero_add _))

theorem outWin_set {off inb} {s : ℕ} (h : off = ![s, 0, 0]) : (outWin off inb).view.set = outSlot s := by
  subst h
  ext i
  rw [mem_outSlot]
  constructor
  · intro hi
    obtain ⟨x, -, e⟩ := Finset.mem_map.mp hi
    rw [← e]
    exact (outWin_coords _ inb x).1
  · intro h0
    refine Finset.mem_map.mpr ⟨ValueIdx.ix2 (i 1) (i 2), Finset.mem_univ _, ?_⟩
    obtain ⟨e0, e1, e2⟩ := outWin_coords _ inb (ValueIdx.ix2 (i 1) (i 2))
    funext a
    match a with
    | ⟨0, _⟩ => exact Fin.ext (e0.trans h0.symm)
    | ⟨1, _⟩ => exact Fin.ext (e1.trans (Nat.zero_add _))
    | ⟨2, _⟩ => exact Fin.ext (e2.trans (Nat.zero_add _))

theorem resWin_set {off inb} {b k : ℕ} (hk : k < 4) (h : off = ![b, 128 * k, 0]) :
    (resWin off inb).view.set = band (4 * b + k) (4 * b + k + 1) := by
  subst h
  ext i
  have hi1 : (i 1).val < 512 := (i 1).isLt
  rw [mem_band]
  constructor
  · intro hi
    obtain ⟨x, -, e⟩ := Finset.mem_map.mp hi
    have hx : (x 0).val < 128 := (x 0).isLt
    obtain ⟨e0, e1, -⟩ := resWin_coords _ inb x
    rw [e] at e0 e1
    change _ = b at e0
    change _ = 128 * k + _ at e1
    omega
  · intro h0
    refine Finset.mem_map.mpr ⟨ValueIdx.ix2 (⟨(i 1).val - 128 * k, by omega⟩ : Fin 128) (i 2), Finset.mem_univ _, ?_⟩
    obtain ⟨e0, e1, e2⟩ := resWin_coords _ inb (ValueIdx.ix2 (⟨(i 1).val - 128 * k, by omega⟩ : Fin 128) (i 2))
    change _ = b at e0
    change _ = 128 * k + ((i 1).val - 128 * k) at e1
    funext a
    match a with
    | ⟨0, _⟩ => exact Fin.ext (e0.trans (by show b = (i 0).val; omega))
    | ⟨1, _⟩ => exact Fin.ext (e1.trans (by show _ = (i 1).val; omega))
    | ⟨2, _⟩ => exact Fin.ext (e2.trans (Nat.zero_add _))

/-! ## What the copies leave -/

/-- A block of the distances copied into a slot: the slot holds the block. -/
theorem holds_copy (l : S64x4x128x128.Idx → F .f32) {b k s : ℕ} {offl inbl offs inbs} (hl : offl = ![b, 0, 32 * k, 0]) (hs : offs = ![s, 0, 0, 0])
    (fd : S2x4x32x128.Idx → F .f32) :
    Holds l b k s ((inWin offs inbs).view.write (Elt F) fd ((ltrbWin offl inbl).view.read (Elt F) l) Finset.univ) := by
  intro i hi
  obtain ⟨x, -, e⟩ := Finset.mem_map.mp (show i ∈ (inWin offs inbs).view.set by rw [inWin_set hs, mem_inSlot]; exact hi)
  obtain ⟨-, e1, e2, e3⟩ := inWin_coords offs inbs x
  obtain ⟨g0, g1, g2, g3⟩ := ltrbWin_coords offl inbl x
  rw [e] at e1 e2 e3
  subst hs hl
  rw [← e]
  refine (View.write_emb_of_mem (Val := Elt F) (v := (inWin _ inbs).view) fd _ (Finset.mem_univ x)).trans ?_
  refine (at4_coords l ((ltrbWin _ inbl).view.emb x) g0 (g1.trans ?_) (g2.trans ?_) (g3.trans ?_))
  · rw [e, e1]; rfl
  · rw [e, e2]; show 32 * k + (x 1).val = 32 * k + (0 + (x 1).val); rw [Nat.zero_add]
  · rw [e, e3]; rfl

/-- A decoded slot copied into the result: those rows of the result are decoded. -/
theorem decoded_copy (l : S64x4x128x128.Idx → F .f32) (sc : S64x2.Idx → F .f32) {b k s : ℕ} (hk : k < 4) {offs inbs offo inbo}
    (hs : offs = ![s, 0, 0]) (ho : offo = ![b, 128 * k, 0]) {f : S2x128x128.Idx → F .f32} (hf : Done l sc b k s 128 f)
    (fd : S64x512x128.Idx → F .f32) :
    ∀ i ∈ band (4 * b + k) (4 * b + k + 1),
      (resWin offo inbo).view.write (Elt F) fd ((outWin offs inbs).view.read (Elt F) f) Finset.univ i = decoded l sc i := by
  intro i hi
  rw [← resWin_set (inb := inbo) hk ho] at hi
  obtain ⟨x, -, e⟩ := Finset.mem_map.mp hi
  obtain ⟨e0, e1, e2⟩ := resWin_coords offo inbo x
  obtain ⟨g0, g1, g2⟩ := outWin_coords offs inbs x
  rw [← e]
  refine (View.write_emb_of_mem (Val := Elt F) (v := (resWin _ inbo).view) fd _ (Finset.mem_univ x)).trans ?_
  have hx : (x 0).val < 128 := (x 0).isLt
  subst hs ho
  replace e0 : ((resWin _ inbo).view.emb x 0).val = b := e0
  replace e1 : ((resWin _ inbo).view.emb x 1).val = 128 * k + (x 0).val := e1
  replace e2 : ((resWin _ inbo).view.emb x 2).val = (x 1).val := e2.trans (Nat.zero_add _)
  replace g0 : ((outWin _ inbs).view.emb x 0).val = s := g0
  replace g1 : ((outWin _ inbs).view.emb x 1).val = (x 0).val := g1.trans (Nat.zero_add _)
  replace g2 : ((outWin _ inbs).view.emb x 2).val = (x 1).val := g2.trans (Nat.zero_add _)
  refine (hf ((outWin _ inbs).view.emb x) g0 (by rw [g1]; exact hx)).trans ?_
  unfold decoded
  rw [e0, e1, e2, g1, g2]
  rw [show (128 * k + (x 0).val) / 4 = 32 * k + (x 0).val / 4 by omega, show (128 * k + (x 0).val) % 4 = (x 0).val % 4 by omega]

/-! ## In flight -/

section Flights

variable (d : Dev nD) (L : grid0.Coords) (l : S64x4x128x128.Idx → F .f32) (sc : S64x2.Idx → F .f32)

/-- A flight delivers beside its delivery whatever is laid by until its wait. -/
theorem flight_frame {c : Thread nD τ} {sm : SemLoc sig} {ι : HIx 1} {N : ℕ} {A R : sProp 𝕄} :
    iprop(Transfers.Flight EC c sm ι N A ∗ R) ⊢ (Transfers.Flight EC c sm ι N iprop(A ∗ R) : sProp 𝕄) := by
  unfold Transfers.Flight
  iintro ⟨⟨⟨%Q, HQ, %hcap, %hpeek⟩, Hcred⟩, HR⟩
  isplitr [Hcred]; swap; · iexact Hcred
  iexists iprop(Q ∗ R)
  isplitl [HQ HR]
  · isplitl [HQ]; · iexact HQ
    iexact HR
  isplit
  · ipureintro
    intro G
    refine BIBase.Entails.trans ?_ (hcap G)
    iintro ⟨⟨HQ, HR⟩, HG⟩
    isplitl [HQ]; · iexact HQ
    iintro ⟨Hv, HA⟩
    iapply HG
    isplitl [Hv]; · iexact Hv
    isplitl [HA]; · iexact HA
    iexact HR
  · ipureintro
    intro G
    refine BIBase.Entails.trans ?_ (hpeek G)
    iintro ⟨⟨HQ, HR⟩, HG⟩
    isplitl [HQ]; · iexact HQ
    iintro HQ
    iapply HG
    isplitl [HQ]; · iexact HQ
    iexact HR

/-- What the wait for a copy in hands back: the slot holding its block, and the share of the distances. -/
def InD (b k s : ℕ) (q : PosShare TreeShare) : sProp 𝕄 := iprop((∃ f, ⌜Holds l b k s f⌝ ∗ inPts d L s f) ∗ (lLoc d ↦{q} l))
/-- What the wait for a copy out hands back: block `u` of the result decoded, and the slot. -/
def OutD (u s : ℕ) : sProp 𝕄 := iprop((oLoc d ↦[band u (u + 1)]{fullShare} decoded l sc) ∗ ∃ f, outPts d L s f)

abbrev InFlight (sm : DmaSem sig) (b k s : ℕ) (q : PosShare TreeShare) : sProp 𝕄 :=
  Transfers.Flight EC (thr d L) (.dma sm) none inN (InD d L l b k s q)
abbrev OutFlight (sm : DmaSem sig) (u s : ℕ) : sProp 𝕄 :=
  Transfers.Flight EC (thr d L) (.dma sm) none outN (OutD d L l sc u s)

/-- The waits recorded so far are the ones met with and the body's own. -/
def Owed (O : CellTallies nD τ sig (HIx 1)) (W : Waits sig (HIx 1)) : sProp 𝕄 :=
  iprop(∃ W', ⌜∀ p ∈ W', p ∈ W ∨ p.2 = none⌝ ∗ owes (thr d L) O W')

variable {α : Type}

theorem start_in {sm : DmaSem sig} {b k s : ℕ} {q : PosShare TreeShare} {offl inbl offs inbs} (hl : offl = ![b, 0, 32 * k, 0]) (hs : offs = ![s, 0, 0, 0])
    {hsrc hdst hsem} {kt : PUnit → Prog (TpuEff nD τ sig (Elt F) Λ₀ (thr d L).2) α} {Q : α → sProp 𝕄} :
    iprop((lLoc d ↦{q} l) ∗ (∃ f, inPts d L s f) ∗ semVal (thr d L, .dma sm) 0)
      ⊢ (iprop((InFlight d L l sm b k s q -∗ wp frame (wpE (defs₀ (F := F)) 𝒱₀ (thr d L) none) Set.univ (kt ⟨⟩) Q)
          -∗ wp frame (wpE (defs₀ (F := F)) 𝒱₀ (thr d L) none) Set.univ
            (.op (.enqueueDma (ltrbWin offl inbl) (.here (inWin offs inbs)) (.dma sm) hsrc hdst hsem) kt) Q) : sProp 𝕄) := by
  iintro ⟨Hl, ⟨%fd, Hi⟩, Hv⟩ Hk
  ihave Hl := (Entails.of_eq (show (lLoc d ↦{q} l : sProp 𝕄) = ((ltrbWin offl inbl).view.loc (thr d L) ↦[Finset.univ]{q} l) from rfl)) $$ Hl
  ihave ⟨Hs, Hrest⟩ := (pointsTo_split_subset (Finset.subset_univ (ltrbWin offl inbl).view.set)).1 $$ Hl
  iapply (Transfers.wp_dmaLocal EC 𝒱₀ (thr d L) none (src := ltrbWin offl inbl) (dst := inWin offs inbs) (sm := .dma sm)
    (Sd := inSlot s) none inN rfl inN_pos (by rw [inWin_set hs])) $$ [Hs Hi Hv]
  · isplitl [Hs]; · iexact Hs
    isplitl [Hi]; · iexact Hi
    iexact Hv
  iintro Hfl
  iapply Hk
  ihave Hfl := flight_frame $$ [Hfl Hrest]
  · isplitl [Hfl]; · iexact Hfl
    iexact Hrest
  iapply (Transfers.Flight_mono EC (thr d L) ?_) $$ Hfl
  unfold InD
  iintro ⟨⟨Hi, Hs⟩, Hrest⟩
  isplitl [Hi]
  · iexists _
    isplitr; swap; · iexact Hi
    ipureintro
    exact holds_copy l hl hs fd
  ihave Hl := (pointsTo_split_subset (ℓ := (ltrbWin offl inbl).view.loc (thr d L)) (q := q) (f := l) (Finset.subset_univ (ltrbWin offl inbl).view.set)).2 $$ [Hs Hrest]
  · isplitl [Hs]; · iexact Hs
    iexact Hrest
  iexact Hl

theorem start_out {sm : DmaSem sig} {b k s u : ℕ} {offs inbs offo inbo} (hk : k < 4) (hu : 4 * b + k = u) (hs : offs = ![s, 0, 0]) (ho : offo = ![b, 128 * k, 0])
    {hsrc hdst hsem} {o : S64x512x128.Idx → F .f32} {kt : PUnit → Prog (TpuEff nD τ sig (Elt F) Λ₀ (thr d L).2) α} {Q : α → sProp 𝕄} :
    iprop((∃ f, ⌜Done l sc b k s 128 f⌝ ∗ outPts d L s f) ∗ (oLoc d ↦[band u (u + 1)]{fullShare} o) ∗ semVal (thr d L, .dma sm) 0)
      ⊢ (iprop((OutFlight d L l sc sm u s -∗ wp frame (wpE (defs₀ (F := F)) 𝒱₀ (thr d L) none) Set.univ (kt ⟨⟩) Q)
          -∗ wp frame (wpE (defs₀ (F := F)) 𝒱₀ (thr d L) none) Set.univ
            (.op (.enqueueDma (outWin offs inbs) (.here (resWin offo inbo)) (.dma sm) hsrc hdst hsem) kt) Q) : sProp 𝕄) := by
  subst hu
  iintro ⟨⟨%f, %hf, Hs⟩, Ho, Hv⟩ Hk
  ihave Hs := (Entails.of_eq (show (outPts d L s f : sProp 𝕄) = ((outWin offs inbs).view.loc (thr d L) ↦[(outWin offs inbs).view.set]{fullShare} f) by
    rw [outWin_set hs])) $$ Hs
  iapply (Transfers.wp_dmaLocal EC 𝒱₀ (thr d L) none (src := outWin offs inbs) (dst := resWin offo inbo) (sm := .dma sm)
    (Sd := band (4 * b + k) (4 * b + k + 1)) none outN rfl outN_pos (by rw [resWin_set hk ho])) $$ [Hs Ho Hv]
  · isplitl [Hs]; · iexact Hs
    isplitl [Ho]; · iexact Ho
    iexact Hv
  iintro Hfl
  iapply Hk
  iapply (Transfers.Flight_mono EC (thr d L) ?_) $$ Hfl
  unfold OutD
  iintro ⟨Ho, Hs⟩
  isplitl [Ho]
  · ihave Ho := (Entails.of_eq (pointsTo_congr (decoded_copy l sc hk hs ho hf o))) $$ Ho
    iexact Ho
  iexists f
  rw [outWin_set hs]
  iexact Hs

/-- A wait for a flight, for a subcore that owes nothing at the body's own waits. -/
theorem wait_for {O : CellTallies nD τ sig (HIx 1)} {W : Waits sig (HIx 1)} (hO : ∀ g, O g none = 0) {sm : DmaSem sig} {N : ℕ} {A : sProp 𝕄}
    {sp sp' : Space} {s s' : Shape} {e e' : EltTy} {srcw : Memref sig (thr d L).2.kind sp' s' e'} {dstw : Memref sig .scVector sp s e}
    (hN : dstw.view.dmaCredit = N) {hsrc hdst} {kt : PUnit → Prog (TpuEff nD τ sig (Elt F) Λ₀ (thr d L).2) α} {Q : α → sProp 𝕄} :
    iprop(levAts (K (F := F)).L (K (F := F)).lev ∗ Transfers.Flight EC (thr d L) (.dma sm) none N A ∗ Owed d L O W)
      ⊢ (iprop((iprop(A ∗ semVal (thr d L, .dma sm) 0 ∗ Owed d L O W) -∗ wp frame (wpE (defs₀ (F := F)) 𝒱₀ (thr d L) none) Set.univ (kt ⟨⟩) Q)
          -∗ wp frame (wpE (defs₀ (F := F)) 𝒱₀ (thr d L) none) Set.univ (.op (.waitDma2 sm srcw dstw hsrc hdst) kt) Q) : sProp 𝕄) := by
  unfold Owed
  iintro ⟨#Hlv, Hfl, ⟨%W', %hW, HO⟩⟩ Hk
  iapply (Transfers.wp_waitLocalO EC 𝒱₀ (thr d L) none none hN) $$ [Hfl HO]
  · isplitl [Hfl]; · iexact Hfl
    isplitl [HO]; · iexact HO
    iapply ((K (F := F)).mayWait_none (SemLoc.dma sm) hO); iexact Hlv
  iintro ⟨HA, Hv, HO⟩
  iapply Hk
  isplitl [HA]; · iexact HA
  isplitl [Hv]; · iexact Hv
  iexists _
  isplitr; swap; · iexact HO
  ipureintro
  intro p hp
  rcases Finset.mem_insert.mp hp with rfl | h
  · exact .inr rfl
  · exact hW p h

end Flights

end Cert.Proof.Box

end
-- ==== Proof.Words.lean ====
/-
  The machine words the body computes, read as the numbers they stand for: the windows' offsets, the branches' conditions,
  the image and quarter of each task, the loops' trip counts, the cells' centres along a row.
-/
module

public import proofs.«01_k».proof.Proof.Common

@[expose] public section

noncomputable section

namespace Cert.Proof.Box

open Cert.KernelIdeal Cert.KernelIdeal.Gen
open Idealize.ShloMosaic

variable {F : FTy → Type} [FloatOps F]

theorem trips1 : k0_t1_loop.trips = 4 := by decide +kernel
theorem trips2 : k0_t2_loop.trips = 32 := by decide +kernel
theorem trips3 : k0_t3_loop.trips = 32 := by decide +kernel

theorem cond1_iff : ∀ t : Fin k0_t1_loop.trips, k0_cond1 t = 1#1 ↔ 2 ≤ 2 * t.val := by decide +kernel
theorem cond2_iff : ∀ t : Fin k0_t1_loop.trips, k0_cond2 t = 1#1 ↔ 2 * t.val + 2 < 8 := by decide +kernel
theorem cond3_iff : ∀ t : Fin k0_t1_loop.trips, k0_cond3 t = 1#1 ↔ 2 ≤ 2 * t.val + 1 := by decide +kernel
theorem cond4_iff : ∀ t : Fin k0_t1_loop.trips, k0_cond4 t = 1#1 ↔ 2 * t.val + 1 + 2 < 8 := by decide +kernel

theorem off1_img (L : grid0.Coords) : k0_off1 L = ![img L + 0 / 4, 0, 32 * (0 % 4), 0] := by revert L; decide +kernel
theorem off2_img (L : grid0.Coords) : k0_off2 L = ![img L + 1 / 4, 0, 32 * (1 % 4), 0] := by revert L; decide +kernel
theorem off45_img (L : grid0.Coords) (t : Fin k0_t1_loop.trips) :
    k0_off45 L t = ![img L + (2 * t.val + 2) / 4, 0, 32 * ((2 * t.val + 2) % 4), 0] := by revert L t; decide +kernel
theorem off46_img (L : grid0.Coords) (t : Fin k0_t1_loop.trips) :
    k0_off46 L t = ![img L + (2 * t.val) / 4, 128 * ((2 * t.val) % 4), 0] := by revert L t; decide +kernel
theorem off89_img (L : grid0.Coords) (t : Fin k0_t1_loop.trips) :
    k0_off89 L t = ![img L + (2 * t.val + 1 + 2) / 4, 0, 32 * ((2 * t.val + 1 + 2) % 4), 0] := by revert L t; decide +kernel
theorem off90_img (L : grid0.Coords) (t : Fin k0_t1_loop.trips) :
    k0_off90 L t = ![img L + (2 * t.val + 1) / 4, 128 * ((2 * t.val + 1) % 4), 0] := by revert L t; decide +kernel

/-- The centres along a row, sixteen lanes at a time. -/
theorem lane_word : ∀ (g : Fin 8) (j : S16.Idx),
    Scalar.addi (iota .scVector S16 32 [0] iota_S16_d0_w32_scVector j) (BitVec.ofNat 32 (16 * g.val)) = BitVec.ofNat 32 (16 * g.val + (j 0).val) := by
  decide +kernel
theorem centre_lane (g : Fin 8) (j : S16.Idx) :
    FloatOps.addf (FloatOps.sitofp .f32 (Scalar.addi (iota .scVector S16 32 [0] iota_S16_d0_w32_scVector j) (BitVec.ofNat 32 (16 * g.val))))
      (Scalar.ofBits .f32 0x3F000000#32) = (centre (16 * g.val + (j 0).val) : F .f32) := by
  rw [lane_word]; rfl

theorem c8 (j : S16.Idx) : k0_pay121 (F := F) j = centre (0 + (j 0).val) := centre_lane 0 j
theorem c13 (j : S16.Idx) : k0_pay122 (F := F) j = centre (16 + (j 0).val) := centre_lane 1 j
theorem c18 (j : S16.Idx) : k0_pay123 (F := F) j = centre (32 + (j 0).val) := centre_lane 2 j
theorem c23 (j : S16.Idx) : k0_pay124 (F := F) j = centre (48 + (j 0).val) := centre_lane 3 j
theorem c28 (j : S16.Idx) : k0_pay125 (F := F) j = centre (64 + (j 0).val) := centre_lane 4 j
theorem c33 (j : S16.Idx) : k0_pay126 (F := F) j = centre (80 + (j 0).val) := centre_lane 5 j
theorem c38 (j : S16.Idx) : k0_pay127 (F := F) j = centre (96 + (j 0).val) := centre_lane 6 j
theorem c43 (j : S16.Idx) : k0_pay128 (F := F) (iota .scVector S16 32 [0] iota_S16_d0_w32_scVector) 112#32 j = centre (112 + (j 0).val) :=
  centre_lane 7 j

/-- The first image's number, as the body computes it. -/
theorem base_word (L : grid0.Coords) :
    Scalar.muli (Scalar.addi (Scalar.muli (BitVec.ofNat 32 (L 1).val) 2#32) (BitVec.ofNat 32 (L 0).val)) 2#32 = BitVec.ofNat 32 (img L) := by
  revert L; decide +kernel

/-- An image's number in every lane. -/
theorem pay111_img (L : grid0.Coords) (t : Fin k0_t1_loop.trips) :
    k0_pay111 (BitVec.ofNat 32 (img L)) (BitVec.ofNat 32 (2 * t.val + 1)) = broadcast S16 (BitVec.ofNat 32 (img L + (2 * t.val + 1) / 4)) := by
  refine congrArg (broadcast S16) ?_
  revert L t; decide +kernel

theorem img_lt (L : grid0.Coords) {j : ℕ} (hj : j < 8) : img L + j / 4 < 64 := by
  have h0 : (L 0).val < 2 := (L 0).isLt
  have h1 : (L 1).val < 16 := (L 1).isLt
  unfold img
  omega

/-- A scale gathered at one image's number in every lane. -/
theorem gather_scale (sc : S64x2.Idx → F .f32) {b c : ℕ} (hb : b < 64) (hc : c < 2) {vb vc : IVec S16 32}
    (hvb : vb = broadcast S16 (BitVec.ofNat 32 b)) (hvc : vc = broadcast S16 (BitVec.ofNat 32 c))
    (h : ∀ a x, ((![vb, vc] : Fin 2 → IVec S16 32) a x).toNat < S64x2.size a) (j : S16.Idx) :
    loadIdx (s := S64x2) (t := S16) (F := F) (e := .f32) sc ![vb, vc] h j = at2 sc b c := by
  subst hvb hvc
  refine at2_coords sc _ ?_ ?_
  · show (BitVec.ofNat 32 b).toNat = b
    rw [BitVec.toNat_ofNat]; exact Nat.mod_eq_of_lt (by omega)
  · show (BitVec.ofNat 32 c).toNat = c
    rw [BitVec.toNat_ofNat]; exact Nat.mod_eq_of_lt (by omega)

/-- The same, of the array as the load sees it. -/
theorem gather_read (sc : S64x2.Idx → F .f32) {b c : ℕ} (hb : b < 64) (hc : c < 2) {vb vc : IVec S16 32}
    (hvb : vb = broadcast S16 (BitVec.ofNat 32 b)) (hvc : vc = broadcast S16 (BitVec.ofNat 32 c))
    (h : ∀ a x, ((![vb, vc] : Fin 2 → IVec S16 32) a x).toNat < S64x2.size a) (j : S16.Idx) :
    loadIdx (s := S64x2) (t := S16) (F := F) (e := .f32) (View.read (Elt F) (scV.access (Rect.whole S64x2)) sc) ![vb, vc] h j = at2 sc b c :=
  (congrArg (fun f => loadIdx (s := S64x2) (t := S16) (F := F) (e := .f32) f ![vb, vc] h j)
    (Memref.read_access_whole (Elt F) (cc0_scratch2 : Ref sig .scVector) sc)).trans (gather_scale sc hb hc hvb hvc h j)

/-- The gathers' places are in range. -/
theorem gather_inb {b c : ℕ} (hb : b < 64) (hc : c < 2) {vb vc : IVec S16 32}
    (hvb : vb = broadcast S16 (BitVec.ofNat 32 b)) (hvc : vc = broadcast S16 (BitVec.ofNat 32 c)) :
    ∀ a x, ((![vb, vc] : Fin 2 → IVec S16 32) a x).toNat < S64x2.size a := by
  subst hvb hvc
  intro a x
  match a with
  | ⟨0, _⟩ => show (BitVec.ofNat 32 b).toNat < 64; rw [BitVec.toNat_ofNat]; omega
  | ⟨1, _⟩ => show (BitVec.ofNat 32 c).toNat < 2; rw [BitVec.toNat_ofNat]; omega

end Cert.Proof.Box

end
-- ==== Proof.Trip.lean ====
/-
  ONE TRIP OF THE TASK LOOP: two tasks, one per slot. A task waits for its slot's earlier copy out (if there was one) and
  for its block's copy in, gathers the image's two scales, decodes 32 rows, starts the copy in of the task two further on
  (if there is one) and starts the copy out. Between tasks the result is split in three: the blocks already decoded and
  back, the two in flight out of the slots, and the blocks still as they were.
-/
module

public import proofs.«01_k».proof.Proof.Row
public import proofs.«01_k».proof.Proof.Transfer
public import proofs.«01_k».proof.Proof.Words

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Trip

variable (d : Dev nD) (L : grid0.Coords) (l : S64x4x128x128.Idx → F .f32) (sc : S64x2.Idx → F .f32)

/-! ## The states between tasks -/

/-- An input slot whose next task is `j`: the block's copy in flight, or, past the last task, the slot at rest. -/
def InS (sm : DmaSem sig) (j s : ℕ) (q : PosShare TreeShare) : sProp 𝕄 :=
  if j < 8 then InFlight d L l sm (img L + j / 4) (j % 4) s q
  else iprop((lLoc d ↦{q} l) ∗ (∃ f, inPts d L s f) ∗ semVal (thr d L, .dma sm) 0)
/-- An output slot whose next task is `j`: the copy out of task `j - 2` in flight, or, before the first, the slot at rest. -/
def OutS (sm : DmaSem sig) (j s : ℕ) : sProp 𝕄 :=
  if 2 ≤ j then OutFlight d L l sc sm (4 * img L + (j - 2)) s
  else iprop((∃ f, outPts d L s f) ∗ semVal (thr d L, .dma sm) 0)

/-- The subcore's blocks of the result: the first `a` decoded; from the `a`-th on, as they were. -/
def DoneTo (a : ℕ) : sProp 𝕄 := oLoc d ↦[band (4 * img L) (4 * img L + a)]{fullShare} decoded l sc
def LeftFrom (o : S64x512x128.Idx → F .f32) (a : ℕ) : sProp 𝕄 := oLoc d ↦[band (4 * img L + a) (4 * img L + 8)]{fullShare} o

theorem DoneTo_succ (a : ℕ) :
    iprop(DoneTo d L l sc a ∗ (oLoc d ↦[band (4 * img L + a) (4 * img L + a + 1)]{fullShare} decoded l sc)) ⊢ (DoneTo d L l sc (a + 1) : sProp 𝕄) := by
  unfold DoneTo
  rw [← Nat.add_assoc, ← band_union (Nat.le_add_right (4 * img L) a) (Nat.le_add_right _ 1)]
  exact (pointsTo_union (band_disjoint _ _ _)).2
theorem LeftFrom_succ (o : S64x512x128.Idx → F .f32) {a : ℕ} (ha : a < 8) :
    (LeftFrom d L o a : sProp 𝕄) ⊢ iprop((oLoc d ↦[band (4 * img L + a) (4 * img L + a + 1)]{fullShare} o) ∗ LeftFrom d L o (a + 1)) := by
  unfold LeftFrom
  rw [← Nat.add_assoc, ← band_union (Nat.le_add_right (4 * img L + a) 1) (show 4 * img L + a + 1 ≤ 4 * img L + 8 by omega)]
  exact (pointsTo_union (band_disjoint _ _ _)).1

/-! ## The pieces of a task -/

variable {O : CellTallies nD τ sig (HIx 1)} {W : Waits sig (HIx 1)}

/-- The wait for the slot's earlier copy out, if there was one. -/
theorem out_ready (hO : ∀ g, O g none = 0) {sm : DmaSem sig} {j s : ℕ} {c : Prop} [Decidable c] (hc : c ↔ 2 ≤ j) {src : c → Memref sig .scVector .vmem S128x128 .f32}
    {offo : Fin 3 → Nat} {inbo : c → ∀ a, offo a + S1x128x128.size a ≤ S64x512x128.size a} {hsrc : ∀ h, (src h).view.WordExact} {hdst : ∀ h, (resWin offo (inbo h)).view.WordExact}
    {α : Type} {rest : Prog (TpuEff nD τ sig (Elt F) Λ₀ (thr d L).2) α} {Q : α → sProp 𝕄} :
    iprop(levAts (K (F := F)).L (K (F := F)).lev ∗ OutS d L l sc sm j s ∗ DoneTo d L l sc (j - 2) ∗ Owed d L O W)
      ⊢ (iprop((iprop((∃ f, outPts d L s f) ∗ semVal (thr d L, .dma sm) 0 ∗ DoneTo d L l sc (j - 1) ∗ Owed d L O W)
              -∗ wp frame (wpE (defs₀ (F := F)) 𝒱₀ (thr d L) none) Set.univ rest Q)
          -∗ wp frame (wpE (defs₀ (F := F)) 𝒱₀ (thr d L) none) Set.univ
            (if h : c then (.op (.waitDma2 sm (src h) (resWin offo (inbo h)) (hsrc h) (hdst h)) fun _ => rest) else rest) Q) : sProp 𝕄) := by
  by_cases h : c
  · have hj : 2 ≤ j := hc.1 h
    rw [dif_pos h]
    unfold OutS
    rw [if_pos hj]
    iintro ⟨#Hlv, Hfl, Hd, HO⟩ Hk
    iapply (wait_for d L hO (dstw := resWin offo (inbo h)) (hN := rfl)) $$ [Hfl HO]
    · isplitr; · iexact Hlv
      isplitl [Hfl]; · iexact Hfl
      iexact HO
    unfold OutD
    iintro ⟨⟨Hr, Ho⟩, Hv, HO⟩
    iapply Hk
    isplitl [Ho]; · iexact Ho
    isplitl [Hv]; · iexact Hv
    isplitr [HO]; swap; · iexact HO
    rw [show j - 1 = j - 2 + 1 by omega]
    iapply DoneTo_succ
    isplitl [Hd]; · iexact Hd
    iexact Hr
  · have hj : ¬ 2 ≤ j := fun h' => h (hc.2 h')
    rw [dif_neg h]
    unfold OutS
    rw [if_neg hj, show j - 1 = j - 2 by omega]
    iintro ⟨-, ⟨Ho, Hv⟩, Hd, HO⟩ Hk
    iapply Hk
    isplitl [Ho]; · iexact Ho
    isplitl [Hv]; · iexact Hv
    isplitl [Hd]; · iexact Hd
    iexact HO

/-- The start of the copy in of the task two further on, if there is one. -/
theorem refill {sm : DmaSem sig} {j s : ℕ} {q : PosShare TreeShare} {c : Prop} [Decidable c] (hc : c ↔ j < 8) {offl offs : Fin 4 → Nat}
    {inbl : c → ∀ a, offl a + S1x4x32x128.size a ≤ S64x4x128x128.size a} {inbs : ∀ a, offs a + S1x4x32x128.size a ≤ S2x4x32x128.size a}
    (hl : offl = ![img L + j / 4, 0, 32 * (j % 4), 0]) (hs : offs = ![s, 0, 0, 0])
    {hsrc : ∀ h, (ltrbWin offl (inbl h)).view.WordExact} {hdst : ∀ _ : c, (inWin offs inbs).view.WordExact}
    {hsem : ∀ _ : c, DmaTarget.Typed (nD := nD) (p := (thr d L).2) .hbm (.dma sm) (.here (inWin offs inbs))}
    {α : Type} {rest : Prog (TpuEff nD τ sig (Elt F) Λ₀ (thr d L).2) α} {Q : α → sProp 𝕄} :
    iprop((lLoc d ↦{q} l) ∗ (∃ f, inPts d L s f) ∗ semVal (thr d L, .dma sm) 0)
      ⊢ (iprop((InS d L l sm j s q -∗ wp frame (wpE (defs₀ (F := F)) 𝒱₀ (thr d L) none) Set.univ rest Q)
          -∗ wp frame (wpE (defs₀ (F := F)) 𝒱₀ (thr d L) none) Set.univ
            (if h : c then (.op (.enqueueDma (ltrbWin offl (inbl h)) (.here (inWin offs inbs)) (.dma sm) (hsrc h) (hdst h) (hsem h)) fun _ => rest) else rest) Q) : sProp 𝕄) := by
  by_cases h : c
  · rw [dif_pos h]
    unfold InS
    rw [if_pos (hc.1 h)]
    exact start_in (kt := fun _ => rest) d L l hl hs
  · rw [dif_neg h]
    unfold InS
    rw [if_neg fun h' => h (hc.2 h')]
    iintro H Hk
    iapply Hk $$ H

/-- The start of a task's copy out. -/
theorem send {sm : DmaSem sig} {j s : ℕ} (hj : j < 8) {o : S64x512x128.Idx → F .f32} {offs inbs offo inbo}
    (hs : offs = ![s, 0, 0]) (ho : offo = ![img L + j / 4, 128 * (j % 4), 0]) {hsrc hdst hsem}
    {α : Type} {kt : PUnit → Prog (TpuEff nD τ sig (Elt F) Λ₀ (thr d L).2) α} {Q : α → sProp 𝕄} :
    iprop((∃ f, ⌜Done l sc (img L + j / 4) (j % 4) s 128 f⌝ ∗ outPts d L s f) ∗ LeftFrom d L o j ∗ semVal (thr d L, .dma sm) 0)
      ⊢ (iprop((iprop(OutS d L l sc sm (j + 2) s ∗ LeftFrom d L o (j + 1)) -∗ wp frame (wpE (defs₀ (F := F)) 𝒱₀ (thr d L) none) Set.univ (kt ⟨⟩) Q)
          -∗ wp frame (wpE (defs₀ (F := F)) 𝒱₀ (thr d L) none) Set.univ
            (.op (.enqueueDma (outWin offs inbs) (.here (resWin offo inbo)) (.dma sm) hsrc hdst hsem) kt) Q) : sProp 𝕄) := by
  unfold OutS
  rw [if_pos (Nat.le_add_left 2 j), Nat.add_sub_cancel]
  iintro ⟨Ho, Hl, Hv⟩ Hk
  ihave ⟨Hb, Hl⟩ := (LeftFrom_succ d L o hj) $$ Hl
  iapply (start_out d L l sc (u := 4 * img L + j) (Nat.mod_lt j (by decide)) (by omega) hs ho) $$ [Ho Hb Hv]
  · isplitl [Ho]; · iexact Ho
    isplitl [Hb]; · iexact Hb
    iexact Hv
  iintro Hfl
  iapply Hk
  isplitl [Hfl]; · iexact Hfl
  iexact Hl

/-- The row loop of a task in slot 0: the slot decoded. -/
theorem rows0 {b k : ℕ} (v2 : BitVec 32) {v8 v13 v18 v23 v28 v33 v38 v43 : FVec F S16 .f32} (t1 : Fin k0_t1_loop.trips)
    (a12 v80 v108 c4 : BitVec 32) (v109 : BitVec 1) {v122 v124 : Vec F S16 .f32} {v118 : BitVec 32} (hv : v118 = BitVec.ofNat 32 k) (hk : k < 4)
    (h8 : ∀ j : S16.Idx, v8 j = centre (0 + (j 0).val)) (h13 : ∀ j : S16.Idx, v13 j = centre (16 + (j 0).val))
    (h18 : ∀ j : S16.Idx, v18 j = centre (32 + (j 0).val)) (h23 : ∀ j : S16.Idx, v23 j = centre (48 + (j 0).val))
    (h28 : ∀ j : S16.Idx, v28 j = centre (64 + (j 0).val)) (h33 : ∀ j : S16.Idx, v33 j = centre (80 + (j 0).val))
    (h38 : ∀ j : S16.Idx, v38 j = centre (96 + (j 0).val)) (h43 : ∀ j : S16.Idx, v43 j = centre (112 + (j 0).val))
    (hy : ∀ j, v122 j = at2 sc b 0) (hx : ∀ j, v124 j = at2 sc b 1) {fi : S2x4x32x128.Idx → F .f32} (hin : Holds l b k 0 fi) :
    iprop(inPts d L 0 fi ∗ ∃ fo, outPts d L 0 fo)
      ⊢ (wp frame (wpE (defs₀ (F := F)) 𝒱₀ (thr d L) none) Set.univ
          (Scf.Loop.for k0_t2_loop k0_t2_ok ⟨⟩
            (k0_t2_body L ltrbV (Memref.isWhole_whole _) scaleV (Memref.isWhole_whole _) resV (Memref.isWhole_whole _)
              inV (Memref.isWhole_whole _) outV (Memref.isWhole_whole _) scV (Memref.isWhole_whole _)
              cc0_scratch3 cc0_scratch4 cc0_scratch5 cc0_scratch6 cc0_scoped0 v2 v8 v13 v18 v23 v28 v33 v38 v43 t1 a12 v80 v108 c4 v109
              v118 v122 v124))
          (fun _ => iprop(inPts d L 0 fi ∗ ∃ fo, ⌜Done l sc b k 0 128 fo⌝ ∗ outPts d L 0 fo)) : sProp 𝕄) := by
  subst hv
  iintro ⟨Hi, ⟨%fo, Ho⟩⟩
  iapply (Scf.wp_for frame (wpE (defs₀ (F := F)) 𝒱₀ (thr d L) none) Set.univ _ _ _ _ _ _
    (fun r _ => iprop(inPts d L 0 fi ∗ ∃ fo, ⌜Done l sc b k 0 (4 * r) fo⌝ ∗ outPts d L 0 fo)) ?_)
  · intro r _
    iintro ⟨Hi, ⟨%fo, %hd, Ho⟩⟩
    iapply (row0 d L v2 t1 a12 v80 v108 c4 v109 hk h8 h13 h18 h23 h28 h33 h38 h43 hy hx r hin hd)
    isplitl [Hi]; · iexact Hi
    iexact Ho
  isplitl [Hi Ho]
  · isplitl [Hi]; · iexact Hi
    iexists fo
    isplitr; swap; · iexact Ho
    ipureintro
    exact fun i _ hlt => absurd hlt (Nat.not_lt_zero _)
  · iintro %_ ⟨Hi, Ho⟩
    isplitl [Hi]; · iexact Hi
    iapply (Entails.of_eq (show (iprop(∃ fo, ⌜Done l sc b k 0 (4 * k0_t2_loop.trips) fo⌝ ∗ outPts d L 0 fo) : sProp 𝕄) = iprop(∃ fo, ⌜Done l sc b k 0 128 fo⌝ ∗ outPts d L 0 fo) by rw [trips2])) $$ Ho

/-- The row loop of a task in slot 1: the slot decoded. -/
theorem rows1 {b k : ℕ} (v2 : BitVec 32) {v8 v13 v18 v23 v28 v33 v38 v43 : FVec F S16 .f32} (t1 : Fin k0_t1_loop.trips)
    (a12 v176 : BitVec 32) (v216 v217 : IVec S16 32) {v218 v220 : Vec F S16 .f32} {v214 : BitVec 32} (hv : v214 = BitVec.ofNat 32 k) (hk : k < 4)
    (h8 : ∀ j : S16.Idx, v8 j = centre (0 + (j 0).val)) (h13 : ∀ j : S16.Idx, v13 j = centre (16 + (j 0).val))
    (h18 : ∀ j : S16.Idx, v18 j = centre (32 + (j 0).val)) (h23 : ∀ j : S16.Idx, v23 j = centre (48 + (j 0).val))
    (h28 : ∀ j : S16.Idx, v28 j = centre (64 + (j 0).val)) (h33 : ∀ j : S16.Idx, v33 j = centre (80 + (j 0).val))
    (h38 : ∀ j : S16.Idx, v38 j = centre (96 + (j 0).val)) (h43 : ∀ j : S16.Idx, v43 j = centre (112 + (j 0).val))
    (hy : ∀ j, v218 j = at2 sc b 0) (hx : ∀ j, v220 j = at2 sc b 1) {fi : S2x4x32x128.Idx → F .f32} (hin : Holds l b k 1 fi) :
    iprop(inPts d L 1 fi ∗ ∃ fo, outPts d L 1 fo)
      ⊢ (wp frame (wpE (defs₀ (F := F)) 𝒱₀ (thr d L) none) Set.univ
          (Scf.Loop.for k0_t3_loop k0_t3_ok ⟨⟩
            (k0_t3_body L ltrbV (Memref.isWhole_whole _) scaleV (Memref.isWhole_whole _) resV (Memref.isWhole_whole _)
              inV (Memref.isWhole_whole _) outV (Memref.isWhole_whole _) scV (Memref.isWhole_whole _)
              cc0_scratch3 cc0_scratch4 cc0_scratch5 cc0_scratch6 cc0_scoped0 v2 v8 v13 v18 v23 v28 v33 v38 v43 t1 a12 v176
              v214 v216 v217 v218 v220))
          (fun _ => iprop(inPts d L 1 fi ∗ ∃ fo, ⌜Done l sc b k 1 128 fo⌝ ∗ outPts d L 1 fo)) : sProp 𝕄) := by
  subst hv
  iintro ⟨Hi, ⟨%fo, Ho⟩⟩
  iapply (Scf.wp_for frame (wpE (defs₀ (F := F)) 𝒱₀ (thr d L) none) Set.univ _ _ _ _ _ _
    (fun r _ => iprop(inPts d L 1 fi ∗ ∃ fo, ⌜Done l sc b k 1 (4 * r) fo⌝ ∗ outPts d L 1 fo)) ?_)
  · intro r _
    iintro ⟨Hi, ⟨%fo, %hd, Ho⟩⟩
    iapply (row1 d L v2 t1 a12 v176 v216 v217 hk h8 h13 h18 h23 h28 h33 h38 h43 hy hx r hin hd)
    isplitl [Hi]; · iexact Hi
    iexact Ho
  isplitl [Hi Ho]
  · isplitl [Hi]; · iexact Hi
    iexists fo
    isplitr; swap; · iexact Ho
    ipureintro
    exact fun i _ hlt => absurd hlt (Nat.not_lt_zero _)
  · iintro %_ ⟨Hi, Ho⟩
    isplitl [Hi]; · iexact Hi
    iapply (Entails.of_eq (show (iprop(∃ fo, ⌜Done l sc b k 1 (4 * k0_t3_loop.trips) fo⌝ ∗ outPts d L 1 fo) : sProp 𝕄) = iprop(∃ fo, ⌜Done l sc b k 1 128 fo⌝ ∗ outPts d L 1 fo) by rw [trips3])) $$ Ho

/-! ## The parts of the trip -/

/-- The subcore's copy of the scales. -/
abbrev scPts : sProp 𝕄 := (thr d L).loc cc0_scratch2 ↦{fullShare} sc

variable (t : Fin k0_t1_loop.trips)

theorem t_lt : t.val < 4 := trips1 ▸ t.isLt

/-- Slot 0's waits. -/
theorem part23_run (hO : ∀ g, O g none = 0) {q : PosShare TreeShare} :
    iprop(levAts (K (F := F)).L (K (F := F)).lev ∗ OutS d L l sc cc0_scratch5.sem (2 * t.val) 0 ∗ DoneTo d L l sc (2 * t.val - 2)
        ∗ InS d L l cc0_scratch3.sem (2 * t.val) 0 q ∗ Owed d L O W)
      ⊢ (wp frame (wpE (defs₀ (F := F)) 𝒱₀ (thr d L) none) Set.univ
          (k0_part23 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0 0#32 1#32 t)
          (fun r => iprop(⌜r = ⟨BitVec.ofNat 32 t.val, BitVec.ofNat 32 (2 * t.val), BitVec.ofNat 32 (2 * t.val / 4), 4#32, 0#1⟩⌝
            ∗ (∃ f, outPts d L 0 f) ∗ semVal (thr d L, .dma cc0_scratch5.sem) 0 ∗ DoneTo d L l sc (2 * t.val - 1)
            ∗ InD d L l (img L + 2 * t.val / 4) (2 * t.val % 4) 0 q ∗ semVal (thr d L, .dma cc0_scratch3.sem) 0 ∗ Owed d L O W)) : sProp 𝕄) := by
  have ht := t_lt t
  simp only [k0_part23_eq_skeleton, k0_part23_skel, Prog.lift, Prog.bind_op, Prog.bind_ret, Prog.pure_eq_ret]
  unfold InS
  rw [if_pos (show 2 * t.val < 8 by omega)]
  iintro ⟨#Hlv, Hos, Hd, His, HO⟩
  iapply (out_ready d L l sc hO (cond1_iff t)) $$ [Hos Hd HO]
  · isplitr; · iexact Hlv
    isplitl [Hos]; · iexact Hos
    isplitl [Hd]; · iexact Hd
    iexact HO
  iintro ⟨Ho, Hov, Hd, HO⟩
  iapply (wait_for d L hO (hN := rfl)) $$ [His HO]
  · isplitr; · iexact Hlv
    isplitl [His]; · iexact His
    iexact HO
  iintro ⟨Hi, Hiv, HO⟩
  rw [wp_ret]; imodintro
  isplitr
  · ipureintro
    clear ht
    revert t
    decide +kernel
  isplitl [Ho]; · iexact Ho
  isplitl [Hov]; · iexact Hov
  isplitl [Hd]; · iexact Hd
  isplitl [Hi]; · iexact Hi
  isplitl [Hiv]; · iexact Hiv
  iexact HO

/-- Slot 0's gathers, its rows, and the next copy into it. -/
theorem part24_run {q : PosShare TreeShare} :
    iprop(scPts d L sc ∗ (∃ f, outPts d L 0 f) ∗ InD d L l (img L + 2 * t.val / 4) (2 * t.val % 4) 0 q ∗ semVal (thr d L, .dma cc0_scratch3.sem) 0)
      ⊢ (wp frame (wpE (defs₀ (F := F)) 𝒱₀ (thr d L) none) Set.univ
          (k0_part24 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0
            (BitVec.ofNat 32 (img L)) k0_pay121 k0_pay122 k0_pay123 k0_pay124 k0_pay125 k0_pay126 k0_pay127
            (k0_pay128 (iota .scVector S16 32 [0] iota_S16_d0_w32_scVector) 112#32) t
            (BitVec.ofNat 32 t.val) (BitVec.ofNat 32 (2 * t.val)) (BitVec.ofNat 32 (2 * t.val / 4)) 4#32 0#1)
          (fun _ => iprop(scPts d L sc ∗ (∃ f, ⌜Done l sc (img L + 2 * t.val / 4) (2 * t.val % 4) 0 128 f⌝ ∗ outPts d L 0 f)
            ∗ InS d L l cc0_scratch3.sem (2 * t.val + 2) 0 q)) : sProp 𝕄) := by
  have ht := t_lt t
  have hb : img L + 2 * t.val / 4 < 64 := img_lt L (by omega)
  have hw : (broadcast S16 (Scalar.addi (BitVec.ofNat 32 (img L)) (BitVec.ofNat 32 (2 * t.val / 4))) : IVec S16 32)
      = broadcast S16 (BitVec.ofNat 32 (img L + 2 * t.val / 4)) := congrArg (broadcast S16) (BitVec.ofNat_add _ _).symm
  have hp : ∀ (c : BitVec 32) (hc : c = 0#32 ∨ c = 1#32), ∀ a x, ((![broadcast S16 (Scalar.addi (BitVec.ofNat 32 (img L)) (BitVec.ofNat 32 (2 * t.val / 4))),
      broadcast S16 c] : Fin 2 → IVec S16 32) a x).toNat < S64x2.size a := by
    rintro c (rfl | rfl)
    · exact gather_inb hb (c := 0) (by decide) hw rfl
    · exact gather_inb hb (c := 1) (by decide) hw rfl
  simp only [k0_part24_eq_skeleton, k0_part24_skel, Prog.lift, Prog.bind_op, Prog.bind_ret, Prog.pure_eq_ret, k0_part11_eq_skeleton, k0_part11_skel]
  unfold InD
  iintro ⟨Hsc, Ho, ⟨⟨%fi, %hin, Hi⟩, Hl⟩, Hv⟩
  rw [wp_assume_of _ _ _ _ (show k0_chk1 _ _ from hp 0#32 (.inl rfl))]
  iapply (SparseCore.wp_vectorLoadIdx 𝒱₀ (thr d L) none Set.univ (base := scV) (S := Finset.univ) (q := fullShare) (f := sc) (Finset.subset_univ _)) $$ Hsc
  iintro Hsc
  rw [wp_assume_of _ _ _ _ (show k0_chk2 _ _ from hp 1#32 (.inr rfl))]
  iapply (SparseCore.wp_vectorLoadIdx 𝒱₀ (thr d L) none Set.univ (base := scV) (S := Finset.univ) (q := fullShare) (f := sc) (Finset.subset_univ _)) $$ Hsc
  iintro Hsc
  rw [wp_bind]
  iapply (wp_wand_r frame (wpE (defs₀ (F := F)) 𝒱₀ (thr d L) none) Set.univ)
  isplitl [Hi Ho]
  · iapply (rows0 d L l sc (b := img L + 2 * t.val / 4) (k := 2 * t.val % 4) _ t _ _ _ _ _ ?_ (Nat.mod_lt _ (by decide)) c8 c13 c18 c23 c28 c33 c38 c43 ?_ ?_ hin)
    · clear ht hb hw hp hin
      revert t
      decide +kernel
    · intro j
      exact gather_read sc hb (c := 0) (by decide) hw rfl _ j
    · intro j
      exact gather_read sc hb (c := 1) (by decide) hw rfl _ j
    · isplitl [Hi]; · iexact Hi
      iexact Ho
  iintro %_ ⟨Hi, Ho⟩
  iapply (refill d L l (j := 2 * t.val + 2) (cond2_iff t) (off45_img L t) rfl) $$ [Hl Hi Hv]
  · isplitl [Hl]; · iexact Hl
    isplitl [Hi]; · iexists fi; iexact Hi
    iexact Hv
  iintro Hin
  rw [wp_ret]; imodintro
  isplitl [Hsc]; · iexact Hsc
  isplitl [Ho]; · iexact Ho
  iexact Hin

/-- The copy out of slot 0, and slot 1's wait for its earlier copy out. -/
theorem part25_run (hO : ∀ g, O g none = 0) {o : S64x512x128.Idx → F .f32} (v80 c4' v137 : BitVec 32) (v148 : BitVec 1) :
    iprop(levAts (K (F := F)).L (K (F := F)).lev ∗ (∃ f, ⌜Done l sc (img L + 2 * t.val / 4) (2 * t.val % 4) 0 128 f⌝ ∗ outPts d L 0 f)
        ∗ semVal (thr d L, .dma cc0_scratch5.sem) 0 ∗ LeftFrom d L o (2 * t.val) ∗ OutS d L l sc cc0_scratch6.sem (2 * t.val + 1) 1
        ∗ DoneTo d L l sc (2 * t.val + 1 - 2) ∗ Owed d L O W)
      ⊢ (wp frame (wpE (defs₀ (F := F)) 𝒱₀ (thr d L) none) Set.univ
          (k0_part25 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0
            (BitVec.ofNat 32 (img L)) t (BitVec.ofNat 32 t.val) v80 c4' v137 v148)
          (fun r => iprop(⌜r = BitVec.ofNat 32 (2 * t.val + 1)⌝ ∗ OutS d L l sc cc0_scratch5.sem (2 * t.val + 2) 0 ∗ LeftFrom d L o (2 * t.val + 1)
            ∗ (∃ f, outPts d L 1 f) ∗ semVal (thr d L, .dma cc0_scratch6.sem) 0 ∗ DoneTo d L l sc (2 * t.val + 1 - 1) ∗ Owed d L O W)) : sProp 𝕄) := by
  have ht := t_lt t
  simp only [k0_part25_eq_skeleton, k0_part25_skel, Prog.lift, Prog.bind_op, Prog.bind_ret, Prog.pure_eq_ret]
  iintro ⟨#Hlv, Hf, Hv, Hl, Hos, Hd, HO⟩
  iapply (send d L l sc (j := 2 * t.val) (by omega) rfl (off46_img L t)) $$ [Hf Hv Hl]
  · isplitl [Hf]; · iexact Hf
    isplitl [Hl]; · iexact Hl
    iexact Hv
  iintro ⟨Hos0, Hl⟩
  iapply (out_ready d L l sc hO (cond3_iff t)) $$ [Hos Hd HO]
  · isplitr; · iexact Hlv
    isplitl [Hos]; · iexact Hos
    isplitl [Hd]; · iexact Hd
    iexact HO
  iintro ⟨Ho, Hov, Hd, HO⟩
  rw [wp_ret]; imodintro
  isplitr
  · ipureintro
    clear ht
    revert t
    decide +kernel
  isplitl [Hos0]; · iexact Hos0
  isplitl [Hl]; · iexact Hl
  isplitl [Ho]; · iexact Ho
  isplitl [Hov]; · iexact Hov
  isplitl [Hd]; · iexact Hd
  iexact HO

/-- Slot 1's wait for its copy in. -/
theorem part26_run (hO : ∀ g, O g none = 0) {q : PosShare TreeShare} :
    iprop(levAts (K (F := F)).L (K (F := F)).lev ∗ InS d L l cc0_scratch4.sem (2 * t.val + 1) 1 q ∗ Owed d L O W)
      ⊢ (wp frame (wpE (defs₀ (F := F)) 𝒱₀ (thr d L) none) Set.univ
          (k0_part26 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0
            (BitVec.ofNat 32 (img L)) (BitVec.ofNat 32 (2 * t.val + 1)))
          (fun r => iprop(⌜r = ⟨BitVec.ofNat 32 ((2 * t.val + 1) % 4), k0_pay111 (BitVec.ofNat 32 (img L)) (BitVec.ofNat 32 (2 * t.val + 1)), k0_pay112⟩⌝
            ∗ InD d L l (img L + (2 * t.val + 1) / 4) ((2 * t.val + 1) % 4) 1 q ∗ semVal (thr d L, .dma cc0_scratch4.sem) 0 ∗ Owed d L O W)) : sProp 𝕄) := by
  have ht := t_lt t
  simp only [k0_part26_eq_skeleton, k0_part26_skel, Prog.lift, Prog.bind_op, Prog.bind_ret, Prog.pure_eq_ret]
  unfold InS
  rw [if_pos (show 2 * t.val + 1 < 8 by omega)]
  iintro ⟨#Hlv, His, HO⟩
  iapply (wait_for d L hO (hN := rfl)) $$ [His HO]
  · isplitr; · iexact Hlv
    isplitl [His]; · iexact His
    iexact HO
  iintro ⟨Hi, Hiv, HO⟩
  rw [wp_ret]; imodintro
  isplitr
  · ipureintro
    refine congrArg (fun w : BitVec 32 => (⟨w, _, _⟩ : Σ' (_ : BitVec 32) (_ : IVec S16 32), IVec S16 32)) ?_
    clear ht
    revert t
    decide +kernel
  isplitl [Hi]; · iexact Hi
  isplitl [Hiv]; · iexact Hiv
  iexact HO

/-- Slot 1's gathers, its rows, and the next copy into it. -/
theorem part27_run {q : PosShare TreeShare} :
    iprop(scPts d L sc ∗ (∃ f, outPts d L 1 f) ∗ InD d L l (img L + (2 * t.val + 1) / 4) ((2 * t.val + 1) % 4) 1 q ∗ semVal (thr d L, .dma cc0_scratch4.sem) 0)
      ⊢ (wp frame (wpE (defs₀ (F := F)) 𝒱₀ (thr d L) none) Set.univ
          (k0_part27 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0
            (BitVec.ofNat 32 (img L)) k0_pay121 k0_pay122 k0_pay123 k0_pay124 k0_pay125 k0_pay126 k0_pay127
            (k0_pay128 (iota .scVector S16 32 [0] iota_S16_d0_w32_scVector) 112#32) t
            (BitVec.ofNat 32 t.val) (BitVec.ofNat 32 (2 * t.val + 1)) (BitVec.ofNat 32 ((2 * t.val + 1) % 4))
            (k0_pay111 (BitVec.ofNat 32 (img L)) (BitVec.ofNat 32 (2 * t.val + 1))) k0_pay112)
          (fun _ => iprop(scPts d L sc ∗ (∃ f, ⌜Done l sc (img L + (2 * t.val + 1) / 4) ((2 * t.val + 1) % 4) 1 128 f⌝ ∗ outPts d L 1 f)
            ∗ InS d L l cc0_scratch4.sem (2 * t.val + 1 + 2) 1 q)) : sProp 𝕄) := by
  have ht := t_lt t
  have hb : img L + (2 * t.val + 1) / 4 < 64 := img_lt L (by omega)
  have hw := pay111_img L t
  have h0 : (k0_pay112 : IVec S16 32) = broadcast S16 (BitVec.ofNat 32 0) := rfl
  simp only [k0_part27_eq_skeleton, k0_part27_skel, Prog.lift, Prog.bind_op, Prog.bind_ret, Prog.pure_eq_ret, k0_part22_eq_skeleton, k0_part22_skel]
  unfold InD
  iintro ⟨Hsc, Ho, ⟨⟨%fi, %hin, Hi⟩, Hl⟩, Hv⟩
  rw [wp_assume_of _ _ _ _ (show k0_chk3 _ _ from gather_inb hb (c := 0) (by decide) hw h0)]
  iapply (SparseCore.wp_vectorLoadIdx 𝒱₀ (thr d L) none Set.univ (base := scV) (S := Finset.univ) (q := fullShare) (f := sc) (Finset.subset_univ _)) $$ Hsc
  iintro Hsc
  rw [wp_assume_of _ _ _ _ (show k0_chk4 _ _ from gather_inb hb (c := 1) (by decide) hw rfl)]
  iapply (SparseCore.wp_vectorLoadIdx 𝒱₀ (thr d L) none Set.univ (base := scV) (S := Finset.univ) (q := fullShare) (f := sc) (Finset.subset_univ _)) $$ Hsc
  iintro Hsc
  rw [wp_bind]
  iapply (wp_wand_r frame (wpE (defs₀ (F := F)) 𝒱₀ (thr d L) none) Set.univ)
  isplitl [Hi Ho]
  · iapply (rows1 d L l sc (b := img L + (2 * t.val + 1) / 4) (k := (2 * t.val + 1) % 4) _ t _ _ _ _ rfl (Nat.mod_lt _ (by decide)) c8 c13 c18 c23 c28 c33 c38 c43 ?_ ?_ hin)
    · intro j
      exact gather_read sc hb (c := 0) (by decide) hw h0 _ j
    · intro j
      exact gather_read sc hb (c := 1) (by decide) hw rfl _ j
    · isplitl [Hi]; · iexact Hi
      iexact Ho
  iintro %_ ⟨Hi, Ho⟩
  iapply (refill d L l (j := 2 * t.val + 1 + 2) (cond4_iff t) (off89_img L t) rfl) $$ [Hl Hi Hv]
  · isplitl [Hl]; · iexact Hl
    isplitl [Hi]; · iexists fi; iexact Hi
    iexact Hv
  iintro Hin
  rw [wp_ret]; imodintro
  isplitl [Hsc]; · iexact Hsc
  isplitl [Ho]; · iexact Ho
  iexact Hin

/-- What the loop holds before a trip. -/
def Held (O : CellTallies nD τ sig (HIx 1)) (W : Waits sig (HIx 1)) (o : S64x512x128.Idx → F .f32) (q0 q1 : PosShare TreeShare) (n : ℕ) : sProp 𝕄 :=
  iprop(levAts (K (F := F)).L (K (F := F)).lev ∗ Owed d L O W ∗ scPts d L sc
    ∗ InS d L l cc0_scratch3.sem (2 * n) 0 q0 ∗ InS d L l cc0_scratch4.sem (2 * n + 1) 1 q1
    ∗ OutS d L l sc cc0_scratch5.sem (2 * n) 0 ∗ OutS d L l sc cc0_scratch6.sem (2 * n + 1) 1
    ∗ DoneTo d L l sc (2 * n - 2) ∗ LeftFrom d L o (2 * n))

/-- One trip: two tasks. -/
theorem trip (hO : ∀ g, O g none = 0) {o : S64x512x128.Idx → F .f32} {q0 q1 : PosShare TreeShare} (u : Unit) :
    (Held d L l sc O W o q0 q1 t.val)
      ⊢ (wp frame (wpE (defs₀ (F := F)) 𝒱₀ (thr d L) none) Set.univ
          (k0_t1_body L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0
            (BitVec.ofNat 32 (img L)) (iota .scVector S16 32 [0] iota_S16_d0_w32_scVector) k0_pay121 k0_pay122 k0_pay123 k0_pay124 k0_pay125 k0_pay126 k0_pay127 112#32 t u)
          (fun _ => Held d L l sc O W o q0 q1 (t.val + 1)) : sProp 𝕄) := by
  have ht := t_lt t
  unfold Held k0_t1_body
  simp only [Prog.lift, Prog.bind_op, Prog.bind_ret, Prog.pure_eq_ret]
  iintro ⟨#Hlv, HO, Hsc, Hi0, Hi1, Ho0, Ho1, Hd, Hl⟩
  rw [wp_bind]
  iapply (wp_wand_r frame (wpE (defs₀ (F := F)) 𝒱₀ (thr d L) none) Set.univ)
  isplitl [HO Hi0 Ho0 Hd]
  · iapply (part23_run d L l sc t hO)
    isplitr; · iexact Hlv
    isplitl [Ho0]; · iexact Ho0
    isplitl [Hd]; · iexact Hd
    isplitl [Hi0]; · iexact Hi0
    iexact HO
  iintro %r ⟨%hr, Hout, Hov, Hd, Hin, Hiv, HO⟩
  subst hr
  rw [wp_bind]
  iapply (wp_wand_r frame (wpE (defs₀ (F := F)) 𝒱₀ (thr d L) none) Set.univ)
  isplitl [Hsc Hout Hin Hiv]
  · iapply (part24_run d L l sc t)
    isplitl [Hsc]; · iexact Hsc
    isplitl [Hout]; · iexact Hout
    isplitl [Hin]; · iexact Hin
    iexact Hiv
  iintro %r ⟨Hsc, Hout, Hi0⟩
  rcases r with ⟨c4', v137, v148⟩
  rw [wp_bind]
  iapply (wp_wand_r frame (wpE (defs₀ (F := F)) 𝒱₀ (thr d L) none) Set.univ)
  isplitl [Hout Hov Hl Ho1 Hd HO]
  · iapply (part25_run d L l sc t hO)
    isplitr; · iexact Hlv
    isplitl [Hout]; · iexact Hout
    isplitl [Hov]; · iexact Hov
    isplitl [Hl]; · iexact Hl
    isplitl [Ho1]; · iexact Ho1
    isplitl [Hd]; · rw [show 2 * t.val + 1 - 2 = 2 * t.val - 1 by omega]; iexact Hd
    iexact HO
  iintro %r ⟨%hr, Ho0, Hl, Hout, Hov, Hd, HO⟩
  subst hr
  rw [wp_bind]
  iapply (wp_wand_r frame (wpE (defs₀ (F := F)) 𝒱₀ (thr d L) none) Set.univ)
  isplitl [Hi1 HO]
  · iapply (part26_run d L l t hO)
    isplitr; · iexact Hlv
    isplitl [Hi1]; · iexact Hi1
    iexact HO
  iintro %r ⟨%hr, Hin, Hiv, HO⟩
  subst hr
  rw [wp_bind]
  iapply (wp_wand_r frame (wpE (defs₀ (F := F)) 𝒱₀ (thr d L) none) Set.univ)
  isplitl [Hsc Hout Hin Hiv]
  · iapply (part27_run d L l sc t)
    isplitl [Hsc]; · iexact Hsc
    isplitl [Hout]; · iexact Hout
    isplitl [Hin]; · iexact Hin
    iexact Hiv
  iintro %r ⟨Hsc, Hout, Hi1⟩
  rcases r with ⟨v249, v251, v252, v253, v254⟩
  iapply (send d L l sc (j := 2 * t.val + 1) (by omega) rfl (off90_img L t)) $$ [Hout Hov Hl]
  · isplitl [Hout]; · iexact Hout
    isplitl [Hl]; · iexact Hl
    iexact Hov
  iintro ⟨Ho1, Hl⟩
  rw [wp_ret]; imodintro
  rw [show 2 * (t.val + 1) = 2 * t.val + 2 by omega, show 2 * t.val + 2 + 1 = 2 * t.val + 1 + 2 by omega,
    show 2 * t.val + 2 - 2 = 2 * t.val + 1 - 1 by omega]
  isplitr; · iexact Hlv
  isplitl [HO]; · iexact HO
  isplitl [Hsc]; · iexact Hsc
  isplitl [Hi0]; · iexact Hi0
  isplitl [Hi1]; · iexact Hi1
  isplitl [Ho0]; · iexact Ho0
  isplitl [Ho1]; · iexact Ho1
  isplitl [Hd]; · iexact Hd
  iexact Hl

end Trip

end Cert.Proof.Box

end
-- ==== Proof.Tile.lean ====
/-
  THE WHOLE BODY on one vector subcore: its copy of the scales, the two first copies in, the four trips, the two last
  waits. It starts from its shares of the two inputs and its own 1024 rows of the result, and ends with these rows
  decoded, its scratch and its semaphores as they were lent.
-/
module

public import proofs.«01_k».proof.Proof.Trip

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile

variable (d : Dev nD) (L : grid0.Coords) (l : S64x4x128x128.Idx → F .f32) (sc : S64x2.Idx → F .f32)

/-! ## The scratch blocks and their slots -/

theorem inSlots : inSlot 0 ∪ inSlot 1 = Finset.univ := by
  ext i
  have h : (i 0).val < 2 := (i 0).isLt
  simp only [Finset.mem_union, mem_inSlot, Finset.mem_univ, iff_true]
  omega
theorem outSlots : outSlot 0 ∪ outSlot 1 = Finset.univ := by
  ext i
  have h : (i 0).val < 2 := (i 0).isLt
  simp only [Finset.mem_union, mem_outSlot, Finset.mem_univ, iff_true]
  omega
theorem inSlots_disjoint : Disjoint (inSlot 0) (inSlot 1) :=
  Finset.disjoint_left.mpr fun i h h' => by rw [mem_inSlot] at h h'; omega
theorem outSlots_disjoint : Disjoint (outSlot 0) (outSlot 1) :=
  Finset.disjoint_left.mpr fun i h h' => by rw [mem_outSlot] at h h'; omega

theorem in_split (f : S2x4x32x128.Idx → F .f32) :
    ((thr d L).loc cc0_scratch0 ↦{fullShare} f : sProp 𝕄) ⊢ iprop(inPts d L 0 f ∗ inPts d L 1 f) := by
  rw [← inSlots]; exact (pointsTo_union inSlots_disjoint).1
theorem out_split (f : S2x128x128.Idx → F .f32) :
    ((thr d L).loc cc0_scratch1 ↦{fullShare} f : sProp 𝕄) ⊢ iprop(outPts d L 0 f ∗ outPts d L 1 f) := by
  rw [← outSlots]; exact (pointsTo_union outSlots_disjoint).1
theorem in_join (f g : S2x4x32x128.Idx → F .f32) :
    iprop(inPts d L 0 f ∗ inPts d L 1 g) ⊢ (iprop(∃ h, (thr d L).loc cc0_scratch0 ↦{fullShare} h) : sProp 𝕄) := by
  refine (pointsTo_join inSlots_disjoint).trans ?_
  rw [inSlots]
  iintro H; iexists _; iexact H
theorem out_join (f g : S2x128x128.Idx → F .f32) :
    iprop(outPts d L 0 f ∗ outPts d L 1 g) ⊢ (iprop(∃ h, (thr d L).loc cc0_scratch1 ↦{fullShare} h) : sProp 𝕄) := by
  refine (pointsTo_join outSlots_disjoint).trans ?_
  rw [outSlots]
  iintro H; iexists _; iexact H

theorem band_self (a : ℕ) : band a a = ∅ := by
  refine Finset.eq_empty_of_forall_notMem fun x h => ?_
  rw [mem_band] at h; omega

/-! ## The slots at the loop's ends -/

theorem InS_lt {sm : DmaSem sig} {j s : ℕ} {q : PosShare TreeShare} (h : j < 8) :
    (InS d L l sm j s q : sProp 𝕄) = InFlight d L l sm (img L + j / 4) (j % 4) s q := if_pos h
theorem InS_ge {sm : DmaSem sig} {j s : ℕ} {q : PosShare TreeShare} (h : ¬ j < 8) :
    (InS d L l sm j s q : sProp 𝕄) = iprop((lLoc d ↦{q} l) ∗ (∃ f, inPts d L s f) ∗ semVal (thr d L, .dma sm) 0) := if_neg h
theorem OutS_lt {sm : DmaSem sig} {j s : ℕ} (h : ¬ 2 ≤ j) :
    (OutS d L l sc sm j s : sProp 𝕄) = iprop((∃ f, outPts d L s f) ∗ semVal (thr d L, .dma sm) 0) := if_neg h
theorem OutS_ge {sm : DmaSem sig} {j s : ℕ} (h : 2 ≤ j) :
    (OutS d L l sc sm j s : sProp 𝕄) = OutFlight d L l sc sm (4 * img L + (j - 2)) s := if_pos h
theorem DoneTo_zero : (iprop(emp) : sProp 𝕄) ⊢ DoneTo d L l sc 0 := by
  unfold DoneTo
  rw [Nat.add_zero, band_self, pointsTo_empty]

theorem held_zero {O : CellTallies nD τ sig (HIx 1)} {W : Waits sig (HIx 1)} {o : S64x512x128.Idx → F .f32} {q0 q1 : PosShare TreeShare} :
    (Held d L l sc O W o q0 q1 0 : sProp 𝕄)
      = iprop(levAts (K (F := F)).L (K (F := F)).lev ∗ Owed d L O W ∗ scPts d L sc
        ∗ InFlight d L l cc0_scratch3.sem (img L + 0 / 4) (0 % 4) 0 q0 ∗ InFlight d L l cc0_scratch4.sem (img L + 1 / 4) (1 % 4) 1 q1
        ∗ ((∃ f, outPts d L 0 f) ∗ semVal (thr d L, .dma cc0_scratch5.sem) 0)
        ∗ ((∃ f, outPts d L 1 f) ∗ semVal (thr d L, .dma cc0_scratch6.sem) 0)
        ∗ DoneTo d L l sc 0 ∗ LeftFrom d L o 0) := by
  unfold Held
  rw [InS_lt d L l (show 2 * 0 < 8 by decide), InS_lt d L l (show 2 * 0 + 1 < 8 by decide),
    OutS_lt d L l sc (show ¬ 2 ≤ 2 * 0 by decide), OutS_lt d L l sc (show ¬ 2 ≤ 2 * 0 + 1 by decide)]
theorem held_four {O : CellTallies nD τ sig (HIx 1)} {W : Waits sig (HIx 1)} {o : S64x512x128.Idx → F .f32} {q0 q1 : PosShare TreeShare} :
    (Held d L l sc O W o q0 q1 4 : sProp 𝕄)
      = iprop(levAts (K (F := F)).L (K (F := F)).lev ∗ Owed d L O W ∗ scPts d L sc
        ∗ ((lLoc d ↦{q0} l) ∗ (∃ f, inPts d L 0 f) ∗ semVal (thr d L, .dma cc0_scratch3.sem) 0)
        ∗ ((lLoc d ↦{q1} l) ∗ (∃ f, inPts d L 1 f) ∗ semVal (thr d L, .dma cc0_scratch4.sem) 0)
        ∗ OutFlight d L l sc cc0_scratch5.sem (4 * img L + 6) 0 ∗ OutFlight d L l sc cc0_scratch6.sem (4 * img L + 7) 1
        ∗ DoneTo d L l sc 6 ∗ LeftFrom d L o 8) := by
  unfold Held
  rw [InS_ge d L l (show ¬ 2 * 4 < 8 by decide), InS_ge d L l (show ¬ 2 * 4 + 1 < 8 by decide),
    OutS_ge d L l sc (show 2 ≤ 2 * 4 by decide), OutS_ge d L l sc (show 2 ≤ 2 * 4 + 1 by decide)]

/-! ## The parts of the body -/

variable {O : CellTallies nD τ sig (HIx 1)} {W : Waits sig (HIx 1)}

/-- The copy of the scales into the subcore's own memory, and its wait. -/
theorem part28_run (hO : ∀ g, O g none = 0) {q : PosShare TreeShare} :
    iprop(levAts (K (F := F)).L (K (F := F)).lev ∗ (scLoc d ↦{q} sc) ∗ (∃ f, (thr d L).loc cc0_scratch2 ↦{fullShare} f)
        ∗ semVal (thr d L, .dma cc0_scoped0.sem) 0 ∗ Owed d L O W)
      ⊢ (wp frame (wpE (defs₀ (F := F)) 𝒱₀ (thr d L) none) Set.univ
          (k0_part28 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0)
          (fun r => iprop(⌜r = ⟨BitVec.ofNat 32 (img L), iota .scVector S16 32 [0] iota_S16_d0_w32_scVector, k0_pay121, k0_pay122, k0_pay123, k0_pay124,
              k0_pay125, k0_pay126, k0_pay127, 112#32⟩⌝
            ∗ (scLoc d ↦{q} sc) ∗ scPts d L sc ∗ semVal (thr d L, .dma cc0_scoped0.sem) 0 ∗ Owed d L O W)) : sProp 𝕄) := by
  simp only [k0_part28_eq_skeleton, k0_part28_skel, Prog.lift, Prog.bind_op, Prog.bind_ret, Prog.pure_eq_ret]
  iintro ⟨#Hlv, Hs, ⟨%fd, Hd⟩, Hv, HO⟩
  ihave Hs := (Entails.of_eq (show (scLoc d ↦{q} sc : sProp 𝕄) = (scaleV.view.loc (thr d L) ↦[scaleV.view.set]{q} sc) by
    simp only [Memref.view_whole, View.set_whole])) $$ Hs
  iapply (Transfers.wp_dmaLocal EC 𝒱₀ (thr d L) none (src := scaleV) (dst := scV) (sm := .dma cc0_scoped0.sem)
    (Sd := Finset.univ) none scV.view.dmaCredit rfl (View.dmaCredit_pos _ (by decide)) (Finset.subset_univ _)) $$ [Hs Hd Hv]
  · isplitl [Hs]; · iexact Hs
    isplitl [Hd]; · iexact Hd
    iexact Hv
  iintro Hfl
  iapply (wait_for d L hO (hN := rfl)) $$ [Hfl HO]
  · isplitr; · iexact Hlv
    isplitl [Hfl]; · iexact Hfl
    iexact HO
  iintro ⟨⟨Hd, Hs⟩, Hv, HO⟩
  rw [wp_ret]; imodintro
  isplitr
  · ipureintro
    rw [base_word]
  isplitl [Hs]
  · ihave Hs := (Entails.of_eq (show (scaleV.view.loc (thr d L) ↦[scaleV.view.set]{q} sc) = (scLoc d ↦{q} sc : sProp 𝕄) by
      simp only [Memref.view_whole, View.set_whole])) $$ Hs
    iexact Hs
  isplitl [Hd]
  · ihave Hd := (Entails.of_eq (pointsTo_congr (g := sc) (fun i _ => congrFun (View.write_whole_univ (Val := Elt F) (cc0_scratch2 : Ref sig .scVector) fd sc) i))) $$ Hd
    iexact Hd
  isplitl [Hv]; · iexact Hv
  iexact HO

/-- The two first copies in, and the four trips. -/
theorem part29_run (hO : ∀ g, O g none = 0) {q0 q1 : PosShare TreeShare} {o : S64x512x128.Idx → F .f32} :
    iprop(levAts (K (F := F)).L (K (F := F)).lev ∗ Owed d L O W ∗ scPts d L sc
        ∗ ((lLoc d ↦{q0} l) ∗ (∃ f, inPts d L 0 f) ∗ semVal (thr d L, .dma cc0_scratch3.sem) 0)
        ∗ ((lLoc d ↦{q1} l) ∗ (∃ f, inPts d L 1 f) ∗ semVal (thr d L, .dma cc0_scratch4.sem) 0)
        ∗ ((∃ f, outPts d L 0 f) ∗ semVal (thr d L, .dma cc0_scratch5.sem) 0)
        ∗ ((∃ f, outPts d L 1 f) ∗ semVal (thr d L, .dma cc0_scratch6.sem) 0) ∗ LeftFrom d L o 0)
      ⊢ (wp frame (wpE (defs₀ (F := F)) 𝒱₀ (thr d L) none) Set.univ
          (k0_part29 L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0
            (BitVec.ofNat 32 (img L)) (iota .scVector S16 32 [0] iota_S16_d0_w32_scVector) k0_pay121 k0_pay122 k0_pay123 k0_pay124 k0_pay125 k0_pay126 k0_pay127 112#32)
          (fun _ => Held d L l sc O W o q0 q1 4) : sProp 𝕄) := by
  simp only [k0_part29_eq_skeleton, k0_part29_skel, Prog.lift, Prog.bind_op, Prog.bind_ret, Prog.pure_eq_ret]
  iintro ⟨#Hlv, HO, Hsc, Hi0, Hi1, Ho0, Ho1, Hl⟩
  iapply (start_in d L l (off1_img L) rfl) $$ Hi0
  iintro Hi0
  iapply (start_in d L l (off2_img L) rfl) $$ Hi1
  iintro Hi1
  rw [wp_bind]
  iapply (Scf.wp_for frame (wpE (defs₀ (F := F)) 𝒱₀ (thr d L) none) Set.univ _ _ _ _ _ _
    (fun n _ => Held d L l sc O W o q0 q1 n) (fun t u => trip d L l sc t hO u))
  isplitl [HO Hsc Hi0 Hi1 Ho0 Ho1 Hl]
  · iapply (Entails.of_eq (held_zero d L l sc (O := O) (W := W) (o := o) (q0 := q0) (q1 := q1)).symm)
    isplitr; · iexact Hlv
    isplitl [HO]; · iexact HO
    isplitl [Hsc]; · iexact Hsc
    isplitl [Hi0]; · iexact Hi0
    isplitl [Hi1]; · iexact Hi1
    isplitl [Ho0]; · iexact Ho0
    isplitl [Ho1]; · iexact Ho1
    isplitr [Hl]; · iapply DoneTo_zero; iempintro
    iexact Hl
  iintro %_ H
  rw [wp_ret]; imodintro
  iapply (Entails.of_eq (congrArg (fun n => (Held d L l sc O W o q0 q1 n : sProp 𝕄)) trips1)) $$ H

/-- The body's last two waits leave all eight blocks decoded, and every slot and semaphore at rest. -/
def Finish (O : CellTallies nD τ sig (HIx 1)) (W : Waits sig (HIx 1)) (q0 q1 : PosShare TreeShare) : sProp 𝕄 :=
  iprop(Owed d L O W ∗ scPts d L sc
    ∗ ((lLoc d ↦{q0} l) ∗ (∃ f, inPts d L 0 f) ∗ semVal (thr d L, .dma cc0_scratch3.sem) 0)
    ∗ ((lLoc d ↦{q1} l) ∗ (∃ f, inPts d L 1 f) ∗ semVal (thr d L, .dma cc0_scratch4.sem) 0)
    ∗ ((∃ f, outPts d L 0 f) ∗ semVal (thr d L, .dma cc0_scratch5.sem) 0)
    ∗ ((∃ f, outPts d L 1 f) ∗ semVal (thr d L, .dma cc0_scratch6.sem) 0) ∗ DoneTo d L l sc 8)

/-- The whole body, from the pieces its slots are made of. -/
theorem body_run (hO : ∀ g, O g none = 0) {q q0 q1 : PosShare TreeShare} {o : S64x512x128.Idx → F .f32} :
    iprop(levAts (K (F := F)).L (K (F := F)).lev ∗ Owed d L O W
        ∗ ((scLoc d ↦{q} sc) ∗ (∃ f, (thr d L).loc cc0_scratch2 ↦{fullShare} f) ∗ semVal (thr d L, .dma cc0_scoped0.sem) 0)
        ∗ ((lLoc d ↦{q0} l) ∗ (∃ f, inPts d L 0 f) ∗ semVal (thr d L, .dma cc0_scratch3.sem) 0)
        ∗ ((lLoc d ↦{q1} l) ∗ (∃ f, inPts d L 1 f) ∗ semVal (thr d L, .dma cc0_scratch4.sem) 0)
        ∗ ((∃ f, outPts d L 0 f) ∗ semVal (thr d L, .dma cc0_scratch5.sem) 0)
        ∗ ((∃ f, outPts d L 1 f) ∗ semVal (thr d L, .dma cc0_scratch6.sem) 0) ∗ LeftFrom d L o 0)
      ⊢ (wp frame (wpE (defs₀ (F := F)) 𝒱₀ (thr d L) none) Set.univ
          (cc0__body L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0)
          (fun _ => iprop(((scLoc d ↦{q} sc) ∗ semVal (thr d L, .dma cc0_scoped0.sem) 0) ∗ Finish d L l sc O W q0 q1)) : sProp 𝕄) := by
  simp only [cc0__body_eq_skeleton, cc0__body_skel, Prog.lift, Prog.bind_op, Prog.bind_ret, Prog.pure_eq_ret]
  iintro ⟨#Hlv, HO, ⟨Hs, Hd, Hv⟩, Hi0, Hi1, Ho0, Ho1, Hl⟩
  rw [wp_bind]
  iapply (wp_wand_r frame (wpE (defs₀ (F := F)) 𝒱₀ (thr d L) none) Set.univ)
  isplitl [HO Hs Hd Hv]
  · iapply (part28_run d L sc hO)
    isplitr; · iexact Hlv
    isplitl [Hs]; · iexact Hs
    isplitl [Hd]; · iexact Hd
    isplitl [Hv]; · iexact Hv
    iexact HO
  iintro %r ⟨%hr, Hs, Hsc, Hv, HO⟩
  subst hr
  rw [wp_bind]
  iapply (wp_wand_r frame (wpE (defs₀ (F := F)) 𝒱₀ (thr d L) none) Set.univ)
  isplitl [HO Hsc Hi0 Hi1 Ho0 Ho1 Hl]
  · iapply (part29_run d L l sc hO)
    isplitr; · iexact Hlv
    isplitl [HO]; · iexact HO
    isplitl [Hsc]; · iexact Hsc
    isplitl [Hi0]; · iexact Hi0
    isplitl [Hi1]; · iexact Hi1
    isplitl [Ho0]; · iexact Ho0
    isplitl [Ho1]; · iexact Ho1
    iexact Hl
  iintro %_ H
  ihave H := (Entails.of_eq (held_four d L l sc (O := O) (W := W) (o := o) (q0 := q0) (q1 := q1))) $$ H
  icases H with ⟨-, HO, Hsc, Hi0, Hi1, Hf0, Hf1, Hdn, -⟩
  iapply (wait_for d L hO (hN := rfl)) $$ [Hf0 HO]
  · isplitr; · iexact Hlv
    isplitl [Hf0]; · iexact Hf0
    iexact HO
  iintro ⟨Hf0, Hv0, HO⟩
  iapply (wait_for d L hO (hN := rfl)) $$ [Hf1 HO]
  · isplitr; · iexact Hlv
    isplitl [Hf1]; · iexact Hf1
    iexact HO
  unfold OutD
  iintro ⟨⟨Hr1, Ho1⟩, Hv1, HO⟩
  icases Hf0 with ⟨Hr0, Ho0⟩
  rw [wp_ret]; imodintro
  isplitl [Hs Hv]
  · isplitl [Hs]; · iexact Hs
    iexact Hv
  unfold Finish
  isplitl [HO]; · iexact HO
  isplitl [Hsc]; · iexact Hsc
  isplitl [Hi0]; · iexact Hi0
  isplitl [Hi1]; · iexact Hi1
  isplitl [Ho0 Hv0]
  · isplitl [Ho0]; · iexact Ho0
    iexact Hv0
  isplitl [Ho1 Hv1]
  · isplitl [Ho1]; · iexact Ho1
    iexact Hv1
  iapply (DoneTo_succ d L l sc 7)
  isplitr [Hr1]; swap; · iexact Hr1
  iapply (DoneTo_succ d L l sc 6)
  isplitl [Hdn]; · iexact Hdn
  iexact Hr0

end Tile

end Cert.Proof.Box

end
-- ==== Proof.Task.lean ====
/-
  THE TASK of one vector subcore as the launch hands it over: its own scratch and semaphores taken out of the
  subcore's, the body run, and both put back.
-/
module

public import proofs.«01_k».proof.Proof.Tile

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Task

variable (d : Dev nD) (L : grid0.Coords) (l : S64x4x128x128.Idx → F .f32) (sc : S64x2.Idx → F .f32)

/-- A DMA counter of the subcore. -/
abbrev cell (sm : DmaSem sig) : GSem nD τ sig := (thr d L, .dma sm)

theorem cell_ne {a b : DmaSem sig} (h : a ≠ b) : cell d L a ≠ cell d L b := fun e => h (SemLoc.dma.inj (Prod.mk.inj e).2)
theorem cell_own {a : DmaSem sig} (h : (SemLoc.dma a : SemLoc sig).isScoped .scVector = true) : cell d L a ∈ ownCells (thr d L) :=
  mem_ownCells.mpr ⟨rfl, h⟩

/-- The subcore's counters: the five the kernel names, and the rest. -/
theorem own_sems :
    (SparseCore.Cfg.ownSems0 (thr d L) : sProp 𝕄)
      = iprop(semVal (cell d L cc0_scoped0.sem) 0 ∗ semVal (cell d L cc0_scratch3.sem) 0 ∗ semVal (cell d L cc0_scratch4.sem) 0
        ∗ semVal (cell d L cc0_scratch5.sem) 0 ∗ semVal (cell d L cc0_scratch6.sem) 0
        ∗ bigSep ((((((ownCells (thr d L)).erase (cell d L cc0_scoped0.sem)).erase (cell d L cc0_scratch3.sem)).erase (cell d L cc0_scratch4.sem)).erase
            (cell d L cc0_scratch5.sem)).erase (cell d L cc0_scratch6.sem)) fun g => semVal g 0) := by
  unfold SparseCore.Cfg.ownSems0
  rw [SparseCore.bigSep_erase' (cell_own d L (a := cc0_scoped0.sem) (by decide)),
    SparseCore.bigSep_erase' (Finset.mem_erase.mpr ⟨cell_ne d L (a := cc0_scratch3.sem) (by decide), cell_own d L (by decide)⟩),
    SparseCore.bigSep_erase' (Finset.mem_erase.mpr ⟨cell_ne d L (a := cc0_scratch4.sem) (by decide),
      Finset.mem_erase.mpr ⟨cell_ne d L (by decide), cell_own d L (by decide)⟩⟩),
    SparseCore.bigSep_erase' (Finset.mem_erase.mpr ⟨cell_ne d L (a := cc0_scratch5.sem) (by decide),
      Finset.mem_erase.mpr ⟨cell_ne d L (by decide), Finset.mem_erase.mpr ⟨cell_ne d L (by decide), cell_own d L (by decide)⟩⟩⟩),
    SparseCore.bigSep_erase' (Finset.mem_erase.mpr ⟨cell_ne d L (a := cc0_scratch6.sem) (by decide),
      Finset.mem_erase.mpr ⟨cell_ne d L (by decide), Finset.mem_erase.mpr ⟨cell_ne d L (by decide),
        Finset.mem_erase.mpr ⟨cell_ne d L (by decide), cell_own d L (by decide)⟩⟩⟩⟩)]

/-- A buffer of the subcore's own. -/
abbrev own (b : Ref sig .scVector) : DevRef τ sig := (Proc.scVector (cV L) (jV L)).devRef b

theorem own_ne {a b : Ref sig .scVector} (h : a ≠ b) : own L a ≠ own L b := fun e => h (Proc.devRef_injective _ e)

/-- The subcore's buffers: the three the kernel names, and the rest. -/
theorem own_bufs :
    (SparseCore.Cfg.ownBufs (thr d L) : sProp 𝕄)
      = iprop((∃ f, (thr d L).loc cc0_scratch0 ↦{fullShare} f) ∗ (∃ f, (thr d L).loc cc0_scratch1 ↦{fullShare} f)
        ∗ (∃ f, (thr d L).loc cc0_scratch2 ↦{fullShare} f)
        ∗ bigSep ((((ownRefs (τ := τ) (.scVector (cV L) (jV L))).erase (own L cc0_scratch0)).erase (own L cc0_scratch1)).erase (own L cc0_scratch2))
            fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := own L cc0_scratch0) rfl)).trans ?_
  rw [SparseCore.bigSep_erase' (Finset.mem_erase.mpr ⟨own_ne L (show (cc0_scratch1 : Ref sig .scVector) ≠ cc0_scratch0 by decide),
      SparseCore.Cfg.mem_ownRefs_of_owner (p := Proc.scVector (cV L) (jV L)) (b := own L cc0_scratch1) rfl⟩),
    SparseCore.bigSep_erase' (Finset.mem_erase.mpr ⟨own_ne L (show (cc0_scratch2 : Ref sig .scVector) ≠ cc0_scratch1 by decide),
      Finset.mem_erase.mpr ⟨own_ne L (show (cc0_scratch2 : Ref sig .scVector) ≠ cc0_scratch0 by decide),
      SparseCore.Cfg.mem_ownRefs_of_owner (p := Proc.scVector (cV L) (jV L)) (b := own L cc0_scratch2) rfl⟩⟩)]

/-- What a task is lent: a share `q` of each input, and its own 1024 rows of the result. -/
def lent (q : PosShare TreeShare) (n : ℕ) (o : S64x512x128.Idx → F .f32) : sProp 𝕄 :=
  iprop((lLoc d ↦{q} l) ∗ (scLoc d ↦{q} sc) ∗ (oLoc d ↦[band (4 * n) (4 * n + 8)]{fullShare} o))

/-- The task: lent its rows at any contents, it returns them decoded. -/
theorem task_run (hF : (K (F := F)).Facts) {q : PosShare TreeShare} {o : S64x512x128.Idx → F .f32}
    {O : CellTallies nD τ sig (HIx 1)} {W : Waits sig (HIx 1)} (hO : ∀ g, O g none = 0) :
    iprop(levAts (K (F := F)).L (K (F := F)).lev ∗ emp ∗ lent d l sc q (img L) o ∗ scopedBufs (thr d L) ∗ scopedSems0 (thr d L) ∗ owes (thr d L) O W)
      ⊢ (wp frame (wpE (defs₀ (F := F)) 𝒱₀ (thr d L) none) Set.univ
          (cc0__body L ltrbV (Memref.isWhole_whole _) scaleV (Memref.isWhole_whole _) resV (Memref.isWhole_whole _)
            inV (Memref.isWhole_whole _) outV (Memref.isWhole_whole _) scV (Memref.isWhole_whole _)
            cc0_scratch3 cc0_scratch4 cc0_scratch5 cc0_scratch6 cc0_scoped0)
          (fun _ => iprop(lent d l sc q (img L) (decoded l sc) ∗ scopedBufs (thr d L) ∗ scopedSems0 (thr d L)
            ∗ ∃ W', ⌜∀ p ∈ W', p ∈ W ∨ p.2 = none⌝ ∗ owes (thr d L) O W')) : sProp 𝕄) := by
  rw [(K (F := F)).scopedBufs_V hF d (cV L) (jV L), SparseCore.Cfg.scopedSems0_V (Val := Elt F) d (cV L) (jV L), own_sems, own_bufs]
  unfold lent
  iintro ⟨#Hlv, -, ⟨Hl, Hs, Ho⟩, ⟨⟨%fi, Hi⟩, ⟨%fo, Hr⟩, Hd, Hbufs⟩, ⟨Hv, Hv3, Hv4, Hv5, Hv6, Hsems⟩, HO⟩
  ihave Hl := (pointsTo_share (PosShare.mem_left_op_right q)).1 $$ Hl
  icases Hl with ⟨Hl0, Hl1⟩
  ihave Hi := (in_split d L fi) $$ Hi
  icases Hi with ⟨Hi0, Hi1⟩
  ihave Hr := (out_split d L fo) $$ Hr
  icases Hr with ⟨Hr0, Hr1⟩
  iapply (wp_wand_r frame (wpE (defs₀ (F := F)) 𝒱₀ (thr d L) none) Set.univ)
  isplitr [Hbufs Hsems]
  · iapply (body_run d L l sc (O := O) (W := W) hO (q := q) (q0 := q.left) (q1 := q.right) (o := o))
    isplitr; · iexact Hlv
    isplitl [HO]
    · unfold Owed
      iexists W; isplitr
      · ipureintro; exact fun p hp => .inl hp
      iexact HO
    isplitl [Hs Hd Hv]
    · isplitl [Hs]; · iexact Hs
      isplitl [Hd]; · iexact Hd
      iexact Hv
    isplitl [Hl0 Hi0 Hv3]
    · isplitl [Hl0]; · iexact Hl0
      isplitl [Hi0]; · iexists fi; iexact Hi0
      iexact Hv3
    isplitl [Hl1 Hi1 Hv4]
    · isplitl [Hl1]; · iexact Hl1
      isplitl [Hi1]; · iexists fi; iexact Hi1
      iexact Hv4
    isplitl [Hr0 Hv5]
    · isplitl [Hr0]; · iexists fo; iexact Hr0
      iexact Hv5
    isplitl [Hr1 Hv6]
    · isplitl [Hr1]; · iexists fo; iexact Hr1
      iexact Hv6
    unfold LeftFrom
    iexact Ho
  iintro %_ H
  unfold Finish Owed DoneTo
  icases H with ⟨⟨Hs, Hv⟩, HO, Hd, ⟨Hl0, ⟨%g0, Hi0⟩, Hv3⟩, ⟨Hl1, ⟨%g1, Hi1⟩, Hv4⟩, ⟨⟨%r0, Hr0⟩, Hv5⟩, ⟨⟨%r1, Hr1⟩, Hv6⟩, Ho⟩
  isplitl [Hs Hl0 Hl1 Ho]
  · isplitl [Hl0 Hl1]
    · iapply (pointsTo_share (PosShare.mem_left_op_right q)).2
      isplitl [Hl0]; · iexact Hl0
      iexact Hl1
    isplitl [Hs]; · iexact Hs
    iexact Ho
  isplitl [Hi0 Hi1 Hr0 Hr1 Hd Hbufs]
  · isplitl [Hi0 Hi1]
    · iapply (in_join d L g0 g1)
      isplitl [Hi0]; · iexact Hi0
      iexact Hi1
    isplitl [Hr0 Hr1]
    · iapply (out_join d L r0 r1)
      isplitl [Hr0]; · iexact Hr0
      iexact Hr1
    isplitl [Hd]; · iexists _; iexact Hd
    iexact Hbufs
  isplitl [Hv Hv3 Hv4 Hv5 Hv6 Hsems]
  · isplitl [Hv]; · iexact Hv
    isplitl [Hv3]; · iexact Hv3
    isplitl [Hv4]; · iexact Hv4
    isplitl [Hv5]; · iexact Hv5
    isplitl [Hv6]; · iexact Hv6
    iexact Hsems
  iexact HO

end Task

end Cert.Proof.Box

end
-- ==== Proof.Launch.lean ====
/-
  THE LAUNCH: the two inputs are shared out and the result's rows are dealt out, first to the two SparseCores (the
  left and the right half share; the images of one parity of `b / 2`), then to a SparseCore's sixteen subcores (two
  images each); after the call the TensorCore reshapes the rows into the result. The run ends with the inputs as they
  were, the result at `boxes`, and every counter at zero.
-/
module

public import proofs.«01_k».proof.Proof.Task

@[expose] public section

noncomputable section

namespace Cert.Proof.Box

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Dealing the arrays out -/

/-- The rows of SparseCore `c`: the images `b` with `b / 2` of `c`'s parity. -/
def coreRows (c : ℕ) : Finset S64x512x128.Idx := Finset.univ.filter fun x => (x 0).val / 2 % 2 = c
/-- The rows of its subcore `i`. -/
def tileRows (c i : ℕ) : Finset S64x512x128.Idx := band (4 * (4 * i + 2 * c)) (4 * (4 * i + 2 * c) + 8)

theorem mem_coreRows {c : ℕ} {x : S64x512x128.Idx} : x ∈ coreRows c ↔ (x 0).val / 2 % 2 = c :=
  Finset.mem_filter.trans (and_iff_right (Finset.mem_univ x))
theorem mem_tileRows {c i : ℕ} {x : S64x512x128.Idx} : x ∈ tileRows c i ↔ (x 0).val / 2 = 2 * i + c := by
  have h : (x 1).val < 512 := (x 1).isLt
  unfold tileRows
  rw [mem_band]
  omega

theorem coreRows_disjoint : Disjoint (coreRows 0) (coreRows 1) :=
  Finset.disjoint_left.mpr fun x h0 h1 => by
    rw [mem_coreRows] at h0 h1; omega
theorem coreRows_cover : coreRows 0 ∪ coreRows 1 = Finset.univ :=
  Finset.eq_univ_of_forall fun x => by
    rw [Finset.mem_union, mem_coreRows, mem_coreRows]; omega
theorem tileRows_disjoint (c : ℕ) : ∀ i ∈ (Finset.univ : Finset (Fin 16)), ∀ j ∈ (Finset.univ : Finset (Fin 16)), i ≠ j →
    Disjoint (tileRows c i.val) (tileRows c j.val) :=
  fun i _ j _ h => Finset.disjoint_left.mpr fun x h0 h1 => by
    rw [mem_tileRows] at h0 h1; exact h (Fin.ext (by omega))
theorem tileRows_cover {c : ℕ} (hc : c < 2) : (Finset.univ : Finset (Fin 16)).biUnion (fun i => tileRows c i.val) = coreRows c := by
  ext x
  have hx : (x 0).val < 64 := (x 0).isLt
  simp only [Finset.mem_biUnion, Finset.mem_univ, true_and, mem_tileRows, mem_coreRows]
  constructor
  · rintro ⟨i, hi⟩; omega
  · intro h
    exact ⟨⟨(x 0).val / 4, by omega⟩, show (x 0).val / 2 = 2 * ((x 0).val / 4) + c by omega⟩

/-- SparseCore `c`'s share of an input. -/
def half (c : ℕ) : PosShare TreeShare := if c = 0 then fullShare.left else fullShare.right

section Deal

variable (d : Dev nD) (l : S64x4x128x128.Idx → F .f32) (sc : S64x2.Idx → F .f32) (o : S64x512x128.Idx → F .f32)

/-- What SparseCore `c` is lent; and its subcore `i`. -/
def forCore (c : ℕ) : sProp 𝕄 :=
  iprop((lLoc d ↦{half c} l) ∗ (scLoc d ↦{half c} sc) ∗ (oLoc d ↦[coreRows c]{fullShare} o))
def forTile (c i : ℕ) : sProp 𝕄 := lent d l sc (Transfers.shareTokN (half c) i) (4 * i + 2 * c) o

/-- What of SparseCore `c`'s shares no subcore is lent. -/
def spare (c : ℕ) : sProp 𝕄 := iprop((lLoc d ↦{Transfers.shareDrop (half c) 16} l) ∗ (scLoc d ↦{Transfers.shareDrop (half c) 16} sc))

instance forCore_storable (c : ℕ) : BI.Storable (upEmb : UEmb _ 𝕄) (forCore d l sc o c) := by unfold forCore; infer_instance
instance forTile_storable (c i : ℕ) : BI.Storable (upEmb : UEmb _ 𝕄) (forTile d l sc o c i) := by unfold forTile lent; infer_instance

/-- A SparseCore's loan is its spare shares and its subcores' loans. -/
theorem forCore_tiles {c : ℕ} (hc : c < 2) :
    (forCore d l sc o c : sProp 𝕄) ⊣⊢ iprop(spare d l sc c ∗ bigSep Finset.univ fun i : Fin 16 => forTile d l sc o c i.val) := by
  unfold forCore forTile lent spare
  have ho : (oLoc d ↦[coreRows c]{fullShare} o : sProp 𝕄) = bigSep Finset.univ fun i : Fin 16 => oLoc d ↦[tileRows c i.val]{fullShare} o := by
    rw [← tileRows_cover hc]
    exact pointsTo_biUnion (ℓ := oLoc d) Finset.univ (fun i : Fin 16 => tileRows c i.val) (tileRows_disjoint c)
  rw [ho, bigSep_sep', bigSep_sep']
  constructor
  · iintro ⟨Hl, Hs, Ho⟩
    ihave Hl := (Transfers.pointsTo_toks (half c) 16).1 $$ Hl
    ihave Hs := (Transfers.pointsTo_toks (half c) 16).1 $$ Hs
    icases Hl with ⟨Hl0, Hl⟩
    icases Hs with ⟨Hs0, Hs⟩
    isplitl [Hl0 Hs0]
    · isplitl [Hl0]; · iexact Hl0
      iexact Hs0
    isplitl [Hl]; · iexact Hl
    isplitl [Hs]; · iexact Hs
    iexact Ho
  · iintro ⟨⟨Hl0, Hs0⟩, Hl, Hs, Ho⟩
    isplitl [Hl0 Hl]
    · iapply (Transfers.pointsTo_toks (half c) 16).2
      isplitl [Hl0]; · iexact Hl0
      iexact Hl
    isplitl [Hs0 Hs]
    · iapply (Transfers.pointsTo_toks (half c) 16).2
      isplitl [Hs0]; · iexact Hs0
      iexact Hs
    iexact Ho

/-- The arrays whole are the two SparseCores' loans. -/
theorem whole_cores :
    iprop((lLoc d ↦{fullShare} l) ∗ (scLoc d ↦{fullShare} sc) ∗ (oLoc d ↦{fullShare} o))
      ⊣⊢ (iprop(forCore d l sc o 0 ∗ forCore d l sc o 1) : sProp 𝕄) := by
  unfold forCore
  rw [show half 0 = fullShare.left from if_pos rfl, show half 1 = fullShare.right from if_neg Nat.one_ne_zero, ← coreRows_cover]
  constructor
  · iintro ⟨Hl, Hs, Ho⟩
    ihave Hl := (pointsTo_share (PosShare.mem_left_op_right fullShare)).1 $$ Hl
    ihave Hs := (pointsTo_share (PosShare.mem_left_op_right fullShare)).1 $$ Hs
    ihave Ho := (pointsTo_union coreRows_disjoint).1 $$ Ho
    icases Hl with ⟨Hl0, Hl1⟩
    icases Hs with ⟨Hs0, Hs1⟩
    icases Ho with ⟨Ho0, Ho1⟩
    isplitl [Hl0 Hs0 Ho0]
    · isplitl [Hl0]; · iexact Hl0
      isplitl [Hs0]; · iexact Hs0
      iexact Ho0
    isplitl [Hl1]; · iexact Hl1
    isplitl [Hs1]; · iexact Hs1
    iexact Ho1
  · iintro ⟨⟨Hl0, Hs0, Ho0⟩, Hl1, Hs1, Ho1⟩
    isplitl [Hl0 Hl1]
    · iapply (pointsTo_share (PosShare.mem_left_op_right fullShare)).2
      isplitl [Hl0]; · iexact Hl0
      iexact Hl1
    isplitl [Hs0 Hs1]
    · iapply (pointsTo_share (PosShare.mem_left_op_right fullShare)).2
      isplitl [Hs0]; · iexact Hs0
      iexact Hs1
    iapply (pointsTo_union coreRows_disjoint).2
    isplitl [Ho0]; · iexact Ho0
    iexact Ho1

end Deal

/-! ## The launch theorem's obligations -/

variable (m : (ℓ : Loc nD τ sig) → Buf (Elt F) ℓ) (ρ : Dev nD → PrngReg)

/-- The inputs and the result's first contents, and what the call makes of them. -/
abbrev lM (d : Dev nD) : S64x4x128x128.Idx → F .f32 := m (lLoc d)
abbrev sM (d : Dev nD) : S64x2.Idx → F .f32 := m (scLoc d)
abbrev oM (d : Dev nD) : S64x512x128.Idx → F .f32 := m (oLoc d)
abbrev dM (d : Dev nD) : S64x512x128.Idx → F .f32 := decoded (lM m d) (sM m d)

/-- What the call's hand-overs carry: the loans, out as the launch finds the result and back with it decoded. -/
def P : (K (F := F)).Pay (nD := nD) (Val := Elt F) (Name := ℕ) (U := UU) where
  st := fun q d c => match q with | 0 => forCore d (lM m d) (sM m d) (oM m d) c.val
  dn := fun q d c => match q with | 0 => forCore d (lM m d) (sM m d) (dM m d) c.val
  go := fun q d c i => match q with | 0 => forTile d (lM m d) (sM m d) (oM m d) c.val i.val
  td := fun q d c i => match q with | 0 => forTile d (lM m d) (sM m d) (dM m d) c.val i.val
  x := fun _ _ => iprop(emp)

instance P_storable : (P (F := F) m).IsStorable where
  st q d c := match q with | 0 => (inferInstance : BI.Storable (upEmb : UEmb _ 𝕄) (forCore d (lM m d) (sM m d) (oM m d) c.val))
  dn q d c := match q with | 0 => (inferInstance : BI.Storable (upEmb : UEmb _ 𝕄) (forCore d (lM m d) (sM m d) (dM m d) c.val))
  go q d c i := match q with | 0 => (inferInstance : BI.Storable (upEmb : UEmb _ 𝕄) (forTile d (lM m d) (sM m d) (oM m d) c.val i.val))
  td q d c i := match q with | 0 => (inferInstance : BI.Storable (upEmb : UEmb _ 𝕄) (forTile d (lM m d) (sM m d) (dM m d) c.val i.val))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s) ltrbV (Memref.isWhole_whole _) scaleV (Memref.isWhole_whole _)
          resV (Memref.isWhole_whole _) inV (Memref.isWhole_whole _) outV (Memref.isWhole_whole _) scV (Memref.isWhole_whole _)
          cc0_scratch3 cc0_scratch4 cc0_scratch5 cc0_scratch6 cc0_scoped0) ⟨⟩ c s := rfl

theorem waits_of_none {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

/-- Every subcore's task. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task_run d (coordsV ⟨_, hc.1⟩ ⟨_, hc.2⟩) (lM m d) (sM m d) hF (q := Transfers.shareTokN (half c.val) i.val) (o := oM m d) hO).trans
    (wp_mono frame _ _ fun _ => waits_of_none)

/-- A SparseCore deals its loan out and takes it back. -/
theorem vecSplit : (K (F := F)).VecSplit' (P m) 0 := by
  intro d c
  have hc : c.val < 2 := c.isLt
  show (forCore d (lM m d) (sM m d) (oM m d) c.val : sProp 𝕄) ⊢ |={Set.univ}=> iprop(
      (bigSep Finset.univ fun i : Fin 16 => forTile d (lM m d) (sM m d) (oM m d) c.val i.val)
      ∗ ((bigSep Finset.univ fun i : Fin 16 => forTile d (lM m d) (sM m d) (dM m d) c.val i.val) -∗ forCore d (lM m d) (sM m d) (dM m d) c.val))
  iintro H
  ihave H := (forCore_tiles d (lM m d) (sM m d) (oM m d) hc).1 $$ H
  icases H with ⟨Hx, H⟩
  imodintro
  isplitl [H]; · iexact H
  iintro H
  iapply (forCore_tiles d (lM m d) (sM m d) (dM m d) hc).2
  isplitl [Hx]; · iexact Hx
  iexact H

/-- The ghost state at the launch: the hand-overs'; nothing of the kernel's. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have he : (bigSep Finset.univ fun _ : Dev nD => iprop(emp)) = (iprop(emp) : sProp 𝕄) := bigSep_emp_const _
  rw [hx, he]
  unfold u₀
  iintro Hu
  ihave H := (ownU_pair _ _) $$ Hu
  icases H with ⟨HH, -⟩
  imodintro
  isplitl [HH]; · iexact HH
  isplitr <;> iempintro

/-! ## @main on the TensorCore -/

/-- The host's three operations, and the result they leave: the decoded rows, a box's four sides brought together. -/
abbrev tail : List (HloOp τ sig (Elt F)) :=
  [StableHlo.reshape main_v0 main_v1 (rfl : (.f32 : EltTy) = .f32) shapeCasts_S64x512x128_S64x128x4x128,
    StableHlo.unary main_v1 main_v2 ((transpose S64x128x128x4 [0, 1, 3, 2] · transposes_S64x128x4x128_S64x128x128x4_0_1_3_2) :
      (⟨S64x128x4x128, .f32⟩ : BufTy).Contents (Elt F) → (⟨S64x128x128x4, .f32⟩ : BufTy).Contents (Elt F)),
    StableHlo.reshape main_v2 main_v3 (rfl : (.f32 : EltTy) = .f32) shapeCasts_S64x128x128x4_S64x16384x4]

def boxes (l : S64x4x128x128.Idx → F .f32) (sc : S64x2.Idx → F .f32) : S64x16384x4.Idx → F .f32 :=
  shapeCast S64x16384x4 (transpose S64x128x128x4 [0, 1, 3, 2] (shapeCast S64x128x4x128 (decoded l sc) shapeCasts_S64x512x128_S64x128x4x128)
    transposes_S64x128x4x128_S64x128x128x4_0_1_3_2) shapeCasts_S64x128x128x4_S64x16384x4

abbrev at' (b : Ref sig .tc) : DevRef τ sig := Proc.devRef .tc b

/-- The arrays' contents when the call has returned. -/
def V1 (d : Dev nD) : Valuation τ sig (Elt F) := Function.update (fun b => m (d, b)) (at' main_v0) (dM m d)

theorem V1_of_ne (d : Dev nD) {b : Ref sig .tc} (h : b ≠ main_v0) : V1 m d (at' b) = m ((SparseCore.T d).loc b) :=
  Function.update_of_ne (fun e => h (Proc.devRef_injective _ e)) _ _
theorem V1_v0 (d : Dev nD) : V1 m d (at' main_v0) = dM m d := Function.update_self _ _ _

theorem tail_l (d : Dev nD) : StableHlo.after (tail (F := F)) (V1 m d) (at' main_arg0) = lM m d := by
  refine Eq.trans ?_ (V1_of_ne m d (b := main_arg0) (by decide))
  after_results_simp
theorem tail_s (d : Dev nD) : StableHlo.after (tail (F := F)) (V1 m d) (at' main_arg1) = sM m d := by
  refine Eq.trans ?_ (V1_of_ne m d (b := main_arg1) (by decide))
  after_results_simp
theorem tail_v3 (d : Dev nD) : StableHlo.after (tail (F := F)) (V1 m d) (at' main_v3) = boxes (lM m d) (sM m d) := by
  unfold boxes
  have h := V1_v0 m d
  after_results_simp
  rw [h]
  rfl

/-- The TensorCore's six arrays. -/
abbrev arrays : Finset (DevRef τ sig) := {at' main_arg0, at' main_arg1, at' main_v0, at' main_v1, at' main_v2, at' main_v3}

theorem tail_bufs : ∀ op ∈ (tail : List (HloOp τ sig (Elt F))), op.bufs ⊆ arrays :=
  List.forall_iff_forall_mem.mp ⟨show ({at' main_v0, at' main_v1} : Finset (DevRef τ sig)) ⊆ arrays by decide,
    show ({at' main_v1, at' main_v2} : Finset (DevRef τ sig)) ⊆ arrays by decide,
    show ({at' main_v2, at' main_v3} : Finset (DevRef τ sig)) ⊆ arrays by decide⟩
theorem tail_fresh : ∀ op ∈ (tail : List (HloOp τ sig (Elt F))), op.fresh = ∅ :=
  List.forall_iff_forall_mem.mp ⟨rfl, rfl, rfl⟩

theorem held_arrays (d : Dev nD) (W : Valuation τ sig (Elt F)) :
    (StableHlo.held (SparseCore.T d) arrays W : sProp 𝕄) = iprop((lLoc d ↦{fullShare} W (at' main_arg0)) ∗ (scLoc d ↦{fullShare} W (at' main_arg1))
      ∗ (oLoc d ↦{fullShare} W (at' main_v0)) ∗ ((SparseCore.T d).loc main_v1 ↦{fullShare} W (at' main_v1)) ∗ ((SparseCore.T d).loc main_v2 ↦{fullShare} W (at' main_v2))
      ∗ (SparseCore.T d).loc main_v3 ↦{fullShare} W (at' main_v3)) := by
  unfold StableHlo.held arrays
  rw [SparseCore.bigSep_insert' (by decide), SparseCore.bigSep_insert' (by decide), SparseCore.bigSep_insert' (by decide),
    SparseCore.bigSep_insert' (by decide), SparseCore.bigSep_insert' (by decide), bigSep_singleton]

theorem unscoped_arrays (d : Dev nD) (W : (b : Ref sig .tc) → Buf (Elt F) ((d.tc : Thread nD τ).loc b)) :
    (unscopedBufs d W : sProp 𝕄) = iprop((lLoc d ↦{fullShare} W main_arg0) ∗ (scLoc d ↦{fullShare} W main_arg1)
      ∗ (oLoc d ↦{fullShare} W main_v0) ∗ ((SparseCore.T d).loc main_v1 ↦{fullShare} W main_v1) ∗ ((SparseCore.T d).loc main_v2 ↦{fullShare} W main_v2)
      ∗ (SparseCore.T d).loc main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem cores_two (Φ : ℕ → sProp 𝕄) : (bigSep (Finset.univ : Finset (Fin 2)) fun c => Φ c.val) = iprop(Φ 0 ∗ Φ 1) := by
  rw [show (Finset.univ : Finset (Fin 2)) = {0, 1} by decide, SparseCore.bigSep_insert' (by decide), bigSep_singleton]; rfl
theorem st_cores (d : Dev nD) : (bigSep Finset.univ fun c : Fin ((K (F := F)).nCore 0) => (P m).st 0 d c)
    = iprop(forCore d (lM m d) (sM m d) (oM m d) 0 ∗ forCore d (lM m d) (sM m d) (oM m d) 1) := cores_two fun c => forCore d (lM m d) (sM m d) (oM m d) c
theorem dn_cores (d : Dev nD) : (bigSep Finset.univ fun c : Fin ((K (F := F)).nCore 0) => (P m).dn 0 d c)
    = iprop(forCore d (lM m d) (sM m d) (dM m d) 0 ∗ forCore d (lM m d) (sM m d) (dM m d) 1) := cores_two fun c => forCore d (lM m d) (sM m d) (dM m d) c

/-- What @main leaves: the inputs, and the result. -/
abbrev FIN (d : Dev nD) : sProp 𝕄 :=
  iprop((lLoc d ↦{fullShare} m (lLoc d)) ∗ (scLoc d ↦{fullShare} m (scLoc d)) ∗ ((SparseCore.T d).loc main_v3 ↦{fullShare} boxes (lM m d) (sM m d)))

theorem held_end (d : Dev nD) : (StableHlo.held (SparseCore.T d) arrays (StableHlo.after tail (V1 m d)) : sProp 𝕄) ⊢ FIN m d := by
  rw [held_arrays, tail_l, tail_s, tail_v3]
  iintro ⟨Hl, Hs, -, -, -, Hr⟩
  isplitl [Hl]; · iexact Hl
  isplitl [Hs]; · iexact Hs
  iexact Hr

theorem main_tail (d : Dev nD) :
    (main (F := F) d) = (Prog.bind (SparseCore.Cfg.run (K (F := F)) d 0) fun _ => Prog.bind (StableHlo.seq tail) fun _ => Prog.ret ⟨⟩) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays, main_tail]
  iintro ⟨#Hctx, Hst, ⟨Hb, ⟨Hl, Hs, Ho, H1, H2, H3⟩, Hts, -⟩, -⟩
  rw [show ∀ {α β : Type} (p : Prog _ α) (k : α → Prog _ β), Prog.bind p k = p >>= k from fun _ _ => rfl, wp_bind]
  iapply ((K (F := F)).wp_run (D (F := F)) 𝒱 (EH := EH) (P := P m) κ d 0) $$ [Hst Hl Hs Ho Hb Hts H1 H2 H3]
  isplitr; · iexact Hctx
  isplitl [Hst]; · iexact Hst
  isplitl [Hl Hs Ho]
  · rw [st_cores]
    iapply (whole_cores d (lM m d) (sM m d) (oM m d)).1
    isplitl [Hl]; · iexact Hl
    isplitl [Hs]; · iexact Hs
    iexact Ho
  iintro ⟨Hst, Hdn⟩
  ihave Hdn := (Entails.of_eq (dn_cores m d)) $$ Hdn
  ihave Hdn := (whole_cores d (lM m d) (sM m d) (dM m d)).2 $$ Hdn
  icases Hdn with ⟨Hl, Hs, Ho⟩
  iapply (StableHlo.wp_seq 𝒱 none Set.univ d arrays _ tail tail_bufs tail_fresh (V1 m d)) $$ [Hb Hl Hs Ho H1 H2 H3]
  · isplitl [Hb]; · iexact Hb
    rw [held_arrays, V1_v0, V1_of_ne m d (b := main_arg0) (by decide), V1_of_ne m d (b := main_arg1) (by decide), V1_of_ne m d (b := main_v1) (by decide),
      V1_of_ne m d (b := main_v2) (by decide), V1_of_ne m d (b := main_v3) (by decide)]
    isplitl [Hl]; · iexact Hl
    isplitl [Hs]; · iexact Hs
    isplitl [Ho]; · iexact Ho
    isplitl [H1]; · iexact H1
    isplitl [H2]; · iexact H2
    iexact H3
  iintro ⟨Hb, Hh⟩
  rw [wp_ret]; imodintro
  isplitl [Hst]; · iexact Hst
  isplitl [Hh]; · iapply (held_end m d); iexact Hh
  isplitl [Hb]; · iexact Hb
  iexact Hts

/-! ## The run -/

/-- What one device's memory says at the end. -/
def AtEnd (d : Dev nD) (mem : (ℓ : Loc nD τ sig) → Buf (Elt F) ℓ) : Prop :=
  mem ((SparseCore.T d).loc main_v3) = boxes (lM m d) (sM m d) ∧ mem (lLoc d) = m (lLoc d) ∧ mem (scLoc d) = m (scLoc d)

theorem hfin (d : Dev nD) (s' : Phys nD τ sig (Elt F)) : iprop(FIN m d ∗ SI s') ⊢ (⌜AtEnd m d s'.mem.mem⌝ : sProp 𝕄) := by
  iintro ⟨⟨Hl, Hs, Hr⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := scLoc d) (I := Finset.univ) (q := fullShare) (f := m (scLoc d)))) $$ [HSI Hs]
  · isplitl [HSI] <;> iassumption
  icases H with ⟨%h2, HSI, -⟩
  ihave H := (SI_pointsTo_agree (st := s') (ℓ := (SparseCore.T d).loc main_v3) (I := Finset.univ) (q := fullShare) (f := boxes (lM m d) (sM m d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- THE RUN, over any floats: every execution ends with the result at `boxes` of the inputs, the inputs as they were,
    every counter at zero. -/
theorem run_main [∀ e, Nonempty (Elt F e)] :
    θ_run (defs (F := F)) (threads (F := F)) ⟨m, fun _ => 0, ρ⟩ fun r => (∀ d : Dev nD, AtEnd m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fun d s' => AtEnd m d s'.mem.mem) (hfin m) _
    (fun _ h hz => ⟨h, hz⟩)

end Cert.Proof.Box

end
-- ==== Proof.Value.lean ====
/-
  THE VALUE: the reference's composed term, read at box `n = 128 y + x` of image `b` and side `c`, is `dec l s b y c x`,
  the very number the kernel leaves there. Both sides run the same float operations in the same order, so the equation
  holds over any floats: the proof only follows indices through reshapes, broadcasts, slices and stackings.
-/
module

public import proofs.«01_k».proof.Proof.Launch
public import proofs.«01_k».proof.Proof.Gen.ReferenceIdeal.Run
public import Idealize.ShloMosaic.Lib.Pointwise

@[expose] public section

set_option maxRecDepth 16384

noncomputable section

namespace Cert.Proof.Box

open Idealize.ShloMosaic Idealize.ShloMosaic.TcCoe Idealize.SL.Sem

variable {F : FTy → Type} [FloatOps F]

/-! ## The kernel's side -/

section Kernel
open Cert.KernelIdeal Cert.KernelIdeal.Gen

/-- The kernel's rows, regrouped with the sides last, before the last reshape merges rows and columns. -/
def sides (l : S64x4x128x128.Idx → F .f32) (s : S64x2.Idx → F .f32) : S64x128x128x4.Idx → F .f32 :=
  transpose S64x128x128x4 [0, 1, 3, 2] (shapeCast S64x128x4x128 (decoded l s) shapeCasts_S64x512x128_S64x128x4x128)
    transposes_S64x128x4x128_S64x128x128x4_0_1_3_2

theorem sides_at (l : S64x4x128x128.Idx → F .f32) (s : S64x2.Idx → F .f32) (b : Fin 64) (y x : Fin 128) (c : Fin 4) :
    sides l s (ValueIdx.ix4 b y x c) = dec l s b.val y.val c.val x.val := by
  pointwise [sides]
  unfold decoded
  have h1 : (y.val * 4 + c.val) / 4 = y.val := by omega
  have h2 : (y.val * 4 + c.val) % 4 = c.val := by omega
  show dec l s b.val ((y.val * 4 + c.val) / 4) ((y.val * 4 + c.val) % 4) x.val = _
  rw [h1, h2]

end Kernel

/-! ## The reference's side -/

section Reference
open Cert.ReferenceIdeal Cert.ReferenceIdeal.Gen

/-- The index of cell `(y, x)`, component `k`, at copy `b` of `n`, in the rank-8 shapes `jnp.tile` passes through. -/
def at8 {n : ℕ} (b : Fin n) (y x : Fin 128) (k : Fin 2) : (⟨8, ![n, 1, 1, 128, 1, 128, 1, 2]⟩ : Shape).Idx := fun a =>
  match a with
  | ⟨0, _⟩ => b
  | ⟨1, _⟩ => (0 : Fin 1)
  | ⟨2, _⟩ => (0 : Fin 1)
  | ⟨3, _⟩ => y
  | ⟨4, _⟩ => (0 : Fin 1)
  | ⟨5, _⟩ => x
  | ⟨6, _⟩ => (0 : Fin 1)
  | ⟨7, _⟩ => k

/-- Its position in row-major order is that of the rank-4 index `(b, y, x, k)`. -/
theorem rowMajor_at8 {n : ℕ} (b : Fin n) (y x : Fin 128) (k : Fin 2) :
    ((⟨8, ![n, 1, 1, 128, 1, 128, 1, 2]⟩ : Shape).rowMajor (at8 b y x k)).val =
      ((⟨4, ![n, 128, 128, 2]⟩ : Shape).rowMajor (ValueIdx.ix4 b y x k)).val := by
  refine (rowMajor_val8 _ 32768 32768 32768 256 256 2 2 (by simp) (by simp) (by simp) (by simp) (by simp) (by simp) (by simp)).trans
    (Eq.trans ?_ (rowMajor_val4 _ 32768 256 2 (by simp) (by simp) (by simp)).symm)
  show b.val * 32768 + 0 * 32768 + 0 * 32768 + y.val * 256 + 0 * 256 + x.val * 2 + 0 * 2 + k.val =
    b.val * 32768 + y.val * 256 + x.val * 2 + k.val
  omega

/-- Repeating a field over the images passes through shapes of rank 8 whose other new axes are units; in all it reads
    the field at the same cell. -/
theorem tiled_at {α : Type} (g : S1x128x128x2.Idx → α) (b : Fin 64) (y x : Fin 128) (k : Fin 2) :
    shapeCast S64x128x128x2 (broadcastInDim S64x1x1x128x1x128x1x2 ![0, 1, 2, 3, 4, 5, 6, 7]
      bcast_S1x1x1x128x1x128x1x2_S64x1x1x128x1x128x1x2_0_1_2_3_4_5_6_7
      (shapeCast S1x1x1x128x1x128x1x2 g shapeCasts_S1x128x128x2_S1x1x1x128x1x128x1x2))
      shapeCasts_S64x1x1x128x1x128x1x2_S64x128x128x2 (ValueIdx.ix4 b y x k) = g (ValueIdx.ix4 0 y x k) := by
  refine (shapeCast_apply _ _ _ (at8 b y x k) (rowMajor_at8 b y x k)).trans ?_
  refine (broadcastInDim_apply _ _ _ _ (at8 (0 : Fin 1) y x k) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  · exact shapeCast_apply _ _ _ (ValueIdx.ix4 0 y x k) (rowMajor_at8 (0 : Fin 1) y x k).symm

/-- The cells' centres, as the reference stacks them: component 0 along `y`, component 1 along `x`. -/
def grid : S128x128x2.Idx → F .f32 :=
  concatenate S128x128x2 2
    [⟨S128x128x1, broadcastInDim S128x128x1 ![0, 1] bcast_S128x128_S128x128x1_0_1 (broadcastInDim S128x128 ![0] bcast_S128_S128x128_0
        (addf (sitofp .f32 (iotaInDim S128 32 0)) (broadcastInDim S128 ![] bcast_S_S128 (constant S_ .f32 0x3F000000#32))))⟩,
      ⟨S128x128x1, broadcastInDim S128x128x1 ![0, 1] bcast_S128x128_S128x128x1_0_1 (broadcastInDim S128x128 ![1] bcast_S128_S128x128_1
        (addf (sitofp .f32 (iotaInDim S128 32 0)) (broadcastInDim S128 ![] bcast_S_S128 (constant S_ .f32 0x3F000000#32))))⟩]
    concatenates_S128x128x1_S128x128x1_S128x128x2_d2

/-- The centres times the images' scales. -/
def scaled (s : S64x2.Idx → F .f32) : S64x128x128x2.Idx → F .f32 :=
  mulf (shapeCast S64x128x128x2 (broadcastInDim S64x1x1x128x1x128x1x2 ![0, 1, 2, 3, 4, 5, 6, 7]
      bcast_S1x1x1x128x1x128x1x2_S64x1x1x128x1x128x1x2_0_1_2_3_4_5_6_7
      (shapeCast S1x1x1x128x1x128x1x2 (broadcastInDim S1x128x128x2 ![1, 2, 3] bcast_S128x128x2_S1x128x128x2_1_2_3 grid)
        shapeCasts_S1x128x128x2_S1x1x1x128x1x128x1x2)) shapeCasts_S64x1x1x128x1x128x1x2_S64x128x128x2)
    (broadcastInDim S64x128x128x2 ![0, 1, 2, 3] bcast_S64x1x1x2_S64x128x128x2_0_1_2_3
      (broadcastInDim S64x1x1x2 ![0, 3] bcast_S64x2_S64x1x1x2_0_3 s))

theorem grid_y (y x : Fin 128) : grid (F := F) (ValueIdx.ix3 y x 0) = centre y.val := by
  pointwise [grid, centre]

theorem grid_x (y x : Fin 128) : grid (F := F) (ValueIdx.ix3 y x 1) = centre x.val := by
  pointwise [grid, centre]

theorem scaled_at (s : S64x2.Idx → F .f32) (b : Fin 64) (y x : Fin 128) (k : Fin 2) :
    scaled s (ValueIdx.ix4 b y x k) = FloatOps.mulf (grid (ValueIdx.ix3 y x k)) (s (ValueIdx.ix2 b k)) := by
  refine congrArg₂ FloatOps.mulf ((tiled_at _ b y x k).trans ?_) ?_
  · pointwise
    rfl
  · pointwise
    rfl

/-- The scaled centres' component `k`, on the shape the four sides have before they are stacked. -/
def comp (v : S64x128x128x2.Idx → F .f32) (k : ℕ) (h : S64x128x128x2.Slices ![0, 0, 0, k] S64x128x128x1) : S64x128x128x1.Idx → F .f32 :=
  broadcastInDim S64x128x128x1 ![0, 1, 2] bcast_S64x128x128_S64x128x128x1_0_1_2
    (shapeCast S64x128x128 (extractStridedSlice S64x128x128x1 ![0, 0, 0, k] v h) shapeCasts_S64x128x128x1_S64x128x128)

/-- The distances' channel `c`, on the same shape. -/
def chan (l : S64x4x128x128.Idx → F .f32) (c : ℕ) (h : S64x128x128x4.Slices ![0, 0, 0, c] S64x128x128x1) : S64x128x128x1.Idx → F .f32 :=
  broadcastInDim S64x128x128x1 ![0, 1, 2] bcast_S64x128x128_S64x128x128x1_0_1_2
    (shapeCast S64x128x128 (extractStridedSlice S64x128x128x1 ![0, 0, 0, c]
      (transpose S64x128x128x4 [0, 2, 3, 1] l transposes_S64x4x128x128_S64x128x128x4_0_2_3_1) h) shapeCasts_S64x128x128x1_S64x128x128)

/-- The reference's four sides, stacked last. -/
def stacked (l : S64x4x128x128.Idx → F .f32) (s : S64x2.Idx → F .f32) : S64x128x128x4.Idx → F .f32 :=
  concatenate S64x128x128x4 3
    [⟨S64x128x128x1, subf (comp (scaled s) 1 slices_S64x128x128x2_S64x128x128x1_0_0_0_1) (chan l 0 slices_S64x128x128x4_S64x128x128x1_0_0_0_0)⟩,
      ⟨S64x128x128x1, subf (comp (scaled s) 0 slices_S64x128x128x2_S64x128x128x1_0_0_0_0) (chan l 1 slices_S64x128x128x4_S64x128x128x1_0_0_0_1)⟩,
      ⟨S64x128x128x1, addf (comp (scaled s) 1 slices_S64x128x128x2_S64x128x128x1_0_0_0_1) (chan l 2 slices_S64x128x128x4_S64x128x128x1_0_0_0_2)⟩,
      ⟨S64x128x128x1, addf (comp (scaled s) 0 slices_S64x128x128x2_S64x128x128x1_0_0_0_0) (chan l 3 slices_S64x128x128x4_S64x128x128x1_0_0_0_3)⟩]
    concatenates_S64x128x128x1_S64x128x128x1_S64x128x128x1_S64x128x128x1_S64x128x128x4_d3

theorem comp_at (v : S64x128x128x2.Idx → F .f32) (k : Fin 2) (h : S64x128x128x2.Slices ![0, 0, 0, k.val] S64x128x128x1)
    (b : Fin 64) (y x : Fin 128) (z : Fin 1) : comp v k.val h (ValueIdx.ix4 b y x z) = v (ValueIdx.ix4 b y x k) := by
  pointwise [comp]
  rfl

theorem chan_at (l : S64x4x128x128.Idx → F .f32) (c : Fin 4) (h : S64x128x128x4.Slices ![0, 0, 0, c.val] S64x128x128x1)
    (b : Fin 64) (y x : Fin 128) (z : Fin 1) : chan l c.val h (ValueIdx.ix4 b y x z) = l (ValueIdx.ix4 b c y x) := by
  pointwise [chan]
  rfl

theorem stacked_at (l : S64x4x128x128.Idx → F .f32) (s : S64x2.Idx → F .f32) (b : Fin 64) (y x : Fin 128) (c : Fin 4) :
    stacked l s (ValueIdx.ix4 b y x c) = dec l s b.val y.val c.val x.val := by
  have hl := at4_coords l (ValueIdx.ix4 b c y x) rfl rfl rfl rfl
  have hy := at2_coords s (ValueIdx.ix2 b 0) rfl rfl
  have hx := at2_coords s (ValueIdx.ix2 b 1) rfl rfl
  have hgy := (scaled_at s b y x 0).trans (congrArg₂ FloatOps.mulf (grid_y y x) hy)
  have hgx := (scaled_at s b y x 1).trans (congrArg₂ FloatOps.mulf (grid_x y x) hx)
  unfold dec
  match c with
  | 0 =>
    pointwise [stacked]
    exact congrArg₂ FloatOps.subf ((comp_at _ 1 _ b y x _).trans hgx) ((chan_at l 0 _ b y x _).trans hl)
  | 1 =>
    pointwise [stacked]
    exact congrArg₂ FloatOps.subf ((comp_at _ 0 _ b y x _).trans hgy) ((chan_at l 1 _ b y x _).trans hl)
  | 2 =>
    pointwise [stacked]
    exact congrArg₂ FloatOps.addf ((comp_at _ 1 _ b y x _).trans hgx) ((chan_at l 2 _ b y x _).trans hl)
  | 3 =>
    pointwise [stacked]
    exact congrArg₂ FloatOps.addf ((comp_at _ 0 _ b y x _).trans hgy) ((chan_at l 3 _ b y x _).trans hl)

/-- The reference's result is the stacked sides, rows and columns merged. -/
theorem res_eq (m : (ℓ : Loc nD τ sig) → Buf (Elt F) ℓ) (d : Dev nD) :
    Cert.ReferenceIdeal.Value.res_main_v42 m d =
      shapeCast S64x16384x4 (stacked (m ((d.tc : Thread nD τ).loc main_arg0)) (m ((d.tc : Thread nD τ).loc main_arg1)))
        shapeCasts_S64x128x128x4_S64x16384x4 := rfl

end Reference

/-- The stacked sides and the kernel's regrouped rows agree at every index, so the two results are one array. -/
theorem ref_eq_boxes (m : (ℓ : Loc Cert.ReferenceIdeal.nD Cert.ReferenceIdeal.τ Cert.ReferenceIdeal.sig) → Buf (Elt F) ℓ) (d : Dev Cert.ReferenceIdeal.nD) :
    Cert.ReferenceIdeal.Value.res_main_v42 m d =
      boxes (m ((d.tc : Thread Cert.ReferenceIdeal.nD Cert.ReferenceIdeal.τ).loc Cert.ReferenceIdeal.main_arg0))
        (m ((d.tc : Thread Cert.ReferenceIdeal.nD Cert.ReferenceIdeal.τ).loc Cert.ReferenceIdeal.main_arg1)) := by
  rw [res_eq]
  refine congrArg (shapeCast Cert.KernelIdeal.S64x16384x4 · _) (funext fun i => ?_)
  have hi := ValueIdx.eq_ix4 i
  rw [hi]
  exact (stacked_at _ _ (i 0) (i 1) (i 2) (i 3)).trans (sides_at _ _ (i 0) (i 1) (i 2) (i 3)).symm

end Cert.Proof.Box

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The compiled kernel's frame: the one run, at machine floats. -/
theorem frame_kernel : Cert.quiescent_Kernel := fun m ρ _ =>
  (θ_run Cert.KernelIdeal.defs _ _).mono (fun _ h => ⟨fun c => (h.1 c).2, h.2⟩) (Box.run_main (F := Bits) m ρ)

/-- The idealized kernel's frame: the same run, at the extended reals. -/
theorem frame_ideal : Cert.quiescent_KernelIdeal := fun m ρ _ =>
  (θ_run Cert.KernelIdeal.defs _ _).mono (fun _ h => ⟨fun c => (h.1 c).2, h.2⟩) (Box.run_main (F := Ideal) m ρ)

/-- The reference's frame: its operations leave the arguments alone, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with one array, the boxes decoded from the kernel's inputs: the kernel by its run, the
    reference because its term is `boxes` of its own inputs, which are the kernel's. -/
theorem algebraic : Cert.algebraic_KernelIdeal_ReferenceIdeal := fun m ρ m' ρ' _ hag =>
  ⟨fun c => Box.boxes (Box.lM m c) (Box.sM m c),
    (θ_run Cert.KernelIdeal.defs _ _).mono (fun _ h c => h.1 c) (Box.run_main (F := Ideal) m ρ),
    (θ_run Cert.ReferenceIdeal.defs _ _).mono
      (fun _ h c => ⟨(h c).1.trans ((Box.ref_eq_boxes m' c).trans (congrArg₂ Box.boxes (hag c).1 (hag c).2)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
